-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 2048]⟩ ⟨2, ![1024, 8192]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 2048]⟩ ⟨2, ![1024, 8192]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 2048]⟩ ⟨2, ![1024, 8192]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![2048, 1024]⟩ ⟨2, ![8192, 1024]⟩ 0 4 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![2048, 1024]⟩ ⟨2, ![8192, 1024]⟩ 0 4 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![2048, 1024]⟩ ⟨2, ![8192, 1024]⟩ 0 4 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![16, 1024]⟩ ⟨2, ![64, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x1024 : Shape := ⟨2, ![64, 1024]⟩
abbrev S1024x2048 : Shape := ⟨2, ![1024, 2048]⟩
abbrev S2048x1024 : Shape := ⟨2, ![2048, 1024]⟩
abbrev S16x1024 : Shape := ⟨2, ![16, 1024]⟩
abbrev S4x64x256 : Shape := ⟨3, ![4, 64, 256]⟩
abbrev S64x256 : Shape := ⟨2, ![64, 256]⟩
abbrev S3x64x256 : Shape := ⟨3, ![3, 64, 256]⟩
abbrev S3x16x1024 : Shape := ⟨3, ![3, 16, 1024]⟩
abbrev S5x3 : Shape := ⟨2, ![5, 3]⟩
abbrev S_ : Shape := ⟨0, ![]⟩
abbrev S64x2048 : Shape := ⟨2, ![64, 2048]⟩
abbrev S2048x256 : Shape := ⟨2, ![2048, 256]⟩
abbrev S1x64x256 : Shape := ⟨3, ![1, 64, 256]⟩
abbrev S1x1 : Shape := ⟨2, ![1, 1]⟩
abbrev S256x2048 : Shape := ⟨2, ![256, 2048]⟩
abbrev S1x16x1024 : Shape := ⟨3, ![1, 16, 1024]⟩

abbrev nBuf : Space → Nat
  | .hbm => 8
  | .vmem => 14
  | .smem => 0
  | _ => 0

abbrev bufTy : (tb : Table) → Fin (tcTables nBuf tb) → BufTy
  | .hbm, ⟨0, _⟩ => ⟨S64x1024, .f32⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S16x1024, .f32⟩
  | .local _ .vmem, ⟨0, _⟩ => ⟨S64x1024, .f32⟩
  | .local _ .vmem, ⟨1, _⟩ => ⟨S1024x2048, .f32⟩
  | .local _ .vmem, ⟨2, _⟩ => ⟨S2048x1024, .f32⟩
  | .local _ .vmem, ⟨3, _⟩ => ⟨S1024x2048, .f32⟩
  | .local _ .vmem, ⟨4, _⟩ => ⟨S2048x1024, .f32⟩
  | .local _ .vmem, ⟨5, _⟩ => ⟨S1024x2048, .f32⟩
  | .local _ .vmem, ⟨6, _⟩ => ⟨S2048x1024, .f32⟩
  | .local _ .vmem, ⟨7, _⟩ => ⟨S16x1024, .f32⟩
  | .local _ .vmem, ⟨8, _⟩ => ⟨S4x64x256, .f32⟩
  | .local _ .vmem, ⟨9, _⟩ => ⟨S4x64x256, .f32⟩
  | .local _ .vmem, ⟨10, _⟩ => ⟨S64x256, .f32⟩
  | .local _ .vmem, ⟨11, _⟩ => ⟨S3x64x256, .f32⟩
  | .local _ .vmem, ⟨12, _⟩ => ⟨S64x1024, .f32⟩
  | .local _ .vmem, ⟨13, _⟩ => ⟨S3x16x1024, .f32⟩
  | _, _ => ⟨S64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 1 → Bool
  | ⟨0, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 1 38 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_off1 (d0 : Dev nD) (c2_i32_32 : BitVec 32) : Fin 2 → Nat :=
  let c0_39 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v53 : BitVec 32 := Scalar.addi v2 c2_i32_32
  let c4_i32_33 : BitVec 32 := 4#32
  let c0_i32_34 : BitVec 32 := 0#32
  let v54 : BitVec 1 := Scalar.cmpi .eq c4_i32_33 c0_i32_34
  let c1_i32_35 : BitVec 32 := 1#32
  let v55 : BitVec 32 := Scalar.select v54 c1_i32_35 c4_i32_33
  let v56 : BitVec 32 := Scalar.remsi v53 v55
  let c0_i32_37 : BitVec 32 := 0#32
  let v58 : BitVec 1 := Scalar.cmpi .slt v56 c0_i32_37
  let c0_i32_38 : BitVec 32 := 0#32
  let v59 : BitVec 1 := Scalar.cmpi .slt v55 c0_i32_38
  let v60 : BitVec 1 := Scalar.xori v58 v59
  let c0_i32_36 : BitVec 32 := 0#32
  let v57 : BitVec 1 := Scalar.cmpi .ne v56 c0_i32_36
  let v61 : BitVec 1 := Scalar.andi v60 v57
  let v62 : BitVec 32 := Scalar.addi v56 v55
  let v63 : BitVec 32 := Scalar.select v61 v62 v56
  let c256_i32 : BitVec 32 := 256#32
  let v64 : BitVec 32 := Scalar.muli v63 c256_i32
  let v65 : Index := Scalar.indexCast v64
  ![0, v65.toNat]
def k0_off2 (d0 : Dev nD) (c2_i32_32 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v53 : BitVec 32 := Scalar.addi v2 c2_i32_32
  let c4_i32_33 : BitVec 32 := 4#32
  let c0_i32_34 : BitVec 32 := 0#32
  let v54 : BitVec 1 := Scalar.cmpi .eq c4_i32_33 c0_i32_34
  let c1_i32_35 : BitVec 32 := 1#32
  let v55 : BitVec 32 := Scalar.select v54 c1_i32_35 c4_i32_33
  let v56 : BitVec 32 := Scalar.remsi v53 v55
  let c0_i32_37 : BitVec 32 := 0#32
  let v58 : BitVec 1 := Scalar.cmpi .slt v56 c0_i32_37
  let c0_i32_38 : BitVec 32 := 0#32
  let v59 : BitVec 1 := Scalar.cmpi .slt v55 c0_i32_38
  let v60 : BitVec 1 := Scalar.xori v58 v59
  let c0_i32_36 : BitVec 32 := 0#32
  let v57 : BitVec 1 := Scalar.cmpi .ne v56 c0_i32_36
  let v61 : BitVec 1 := Scalar.andi v60 v57
  let v62 : BitVec 32 := Scalar.addi v56 v55
  let v63 : BitVec 32 := Scalar.select v61 v62 v56
  let v70 : Index := Scalar.indexCast v63
  let c0_41 : Index := 0#32
  let c0_42 : Index := 0#32
  ![v70.toNat, 0, 0]
def k0_off3 (d0 : Dev nD) (c2_i32_32 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v53 : BitVec 32 := Scalar.addi v2 c2_i32_32
  let c4_i32_33 : BitVec 32 := 4#32
  let c0_i32_34 : BitVec 32 := 0#32
  let v54 : BitVec 1 := Scalar.cmpi .eq c4_i32_33 c0_i32_34
  let c1_i32_35 : BitVec 32 := 1#32
  let v55 : BitVec 32 := Scalar.select v54 c1_i32_35 c4_i32_33
  let v56 : BitVec 32 := Scalar.remsi v53 v55
  let c0_i32_37 : BitVec 32 := 0#32
  let v58 : BitVec 1 := Scalar.cmpi .slt v56 c0_i32_37
  let c0_i32_38 : BitVec 32 := 0#32
  let v59 : BitVec 1 := Scalar.cmpi .slt v55 c0_i32_38
  let v60 : BitVec 1 := Scalar.xori v58 v59
  let c0_i32_36 : BitVec 32 := 0#32
  let v57 : BitVec 1 := Scalar.cmpi .ne v56 c0_i32_36
  let v61 : BitVec 1 := Scalar.andi v60 v57
  let v62 : BitVec 32 := Scalar.addi v56 v55
  let v63 : BitVec 32 := Scalar.select v61 v62 v56
  let c0_i32_52 : BitVec 32 := 0#32
  let c0_i32_53 : BitVec 32 := 0#32
  ![v63.toNat, 0, 0]
def k0_dev4 (d0 : Dev nD) : Nat :=
  let c0_i32_49 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_32 : BitVec 32 := 2#32
  let v53 : BitVec 32 := Scalar.addi v2 c2_i32_32
  let c4_i32_33 : BitVec 32 := 4#32
  let c0_i32_34 : BitVec 32 := 0#32
  let v54 : BitVec 1 := Scalar.cmpi .eq c4_i32_33 c0_i32_34
  let c1_i32_35 : BitVec 32 := 1#32
  let v55 : BitVec 32 := Scalar.select v54 c1_i32_35 c4_i32_33
  let v56 : BitVec 32 := Scalar.remsi v53 v55
  let c0_i32_37 : BitVec 32 := 0#32
  let v58 : BitVec 1 := Scalar.cmpi .slt v56 c0_i32_37
  let c0_i32_38 : BitVec 32 := 0#32
  let v59 : BitVec 1 := Scalar.cmpi .slt v55 c0_i32_38
  let v60 : BitVec 1 := Scalar.xori v58 v59
  let c0_i32_36 : BitVec 32 := 0#32
  let v57 : BitVec 1 := Scalar.cmpi .ne v56 c0_i32_36
  let v61 : BitVec 1 := Scalar.andi v60 v57
  let v62 : BitVec 32 := Scalar.addi v56 v55
  let v63 : BitVec 32 := Scalar.select v61 v62 v56
  let c1_i32_48 : BitVec 32 := 1#32
  let v74 : BitVec 32 := Scalar.muli v63 c1_i32_48
  let v75 : BitVec 32 := Scalar.addi c0_i32_49 v74
  v75.toNat
def k0_dev5 (d0 : Dev nD) : Nat :=
  let c0_i32_72 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_54 : BitVec 32 := 1#32
  let v84 : BitVec 32 := Scalar.addi v2 c1_i32_54
  let c4_i32_55 : BitVec 32 := 4#32
  let c0_i32_56 : BitVec 32 := 0#32
  let v85 : BitVec 1 := Scalar.cmpi .eq c4_i32_55 c0_i32_56
  let c1_i32_57 : BitVec 32 := 1#32
  let v86 : BitVec 32 := Scalar.select v85 c1_i32_57 c4_i32_55
  let v87 : BitVec 32 := Scalar.remsi v84 v86
  let c0_i32_59 : BitVec 32 := 0#32
  let v89 : BitVec 1 := Scalar.cmpi .slt v87 c0_i32_59
  let c0_i32_60 : BitVec 32 := 0#32
  let v90 : BitVec 1 := Scalar.cmpi .slt v86 c0_i32_60
  let v91 : BitVec 1 := Scalar.xori v89 v90
  let c0_i32_58 : BitVec 32 := 0#32
  let v88 : BitVec 1 := Scalar.cmpi .ne v87 c0_i32_58
  let v92 : BitVec 1 := Scalar.andi v91 v88
  let v93 : BitVec 32 := Scalar.addi v87 v86
  let v94 : BitVec 32 := Scalar.select v92 v93 v87
  let c1_i32_71 : BitVec 32 := 1#32
  let v105 : BitVec 32 := Scalar.muli v94 c1_i32_71
  let v106 : BitVec 32 := Scalar.addi c0_i32_72 v105
  v106.toNat
def k0_dev6 (d0 : Dev nD) : Nat :=
  let c0_i32_95 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_77 : BitVec 32 := 3#32
  let v115 : BitVec 32 := Scalar.addi v2 c3_i32_77
  let c4_i32_78 : BitVec 32 := 4#32
  let c0_i32_79 : BitVec 32 := 0#32
  let v116 : BitVec 1 := Scalar.cmpi .eq c4_i32_78 c0_i32_79
  let c1_i32_80 : BitVec 32 := 1#32
  let v117 : BitVec 32 := Scalar.select v116 c1_i32_80 c4_i32_78
  let v118 : BitVec 32 := Scalar.remsi v115 v117
  let c0_i32_82 : BitVec 32 := 0#32
  let v120 : BitVec 1 := Scalar.cmpi .slt v118 c0_i32_82
  let c0_i32_83 : BitVec 32 := 0#32
  let v121 : BitVec 1 := Scalar.cmpi .slt v117 c0_i32_83
  let v122 : BitVec 1 := Scalar.xori v120 v121
  let c0_i32_81 : BitVec 32 := 0#32
  let v119 : BitVec 1 := Scalar.cmpi .ne v118 c0_i32_81
  let v123 : BitVec 1 := Scalar.andi v122 v119
  let v124 : BitVec 32 := Scalar.addi v118 v117
  let v125 : BitVec 32 := Scalar.select v123 v124 v118
  let c1_i32_94 : BitVec 32 := 1#32
  let v136 : BitVec 32 := Scalar.muli v125 c1_i32_94
  let v137 : BitVec 32 := Scalar.addi c0_i32_95 v136
  v137.toNat
def k0_off4 (d0 : Dev nD) : Fin 2 → Nat :=
  let c0_101 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_100 : BitVec 32 := 256#32
  let v146 : BitVec 32 := Scalar.muli v2 c256_i32_100
  let v147 : Index := Scalar.indexCast v146
  ![0, v147.toNat]
def k0_off5 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_188 : BitVec 32 := 0#32
  let c0_i32_189 : BitVec 32 := 0#32
  ![v2.toNat, 0, 0]
def k0_dev7 (d0 : Dev nD) : Nat :=
  let c0_i32_187 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_175 : BitVec 32 := 2#32
  let v206 : BitVec 32 := Scalar.addi v2 c2_i32_175
  let c4_i32_176 : BitVec 32 := 4#32
  let c0_i32_177 : BitVec 32 := 0#32
  let v207 : BitVec 1 := Scalar.cmpi .eq c4_i32_176 c0_i32_177
  let c1_i32_178 : BitVec 32 := 1#32
  let v208 : BitVec 32 := Scalar.select v207 c1_i32_178 c4_i32_176
  let v209 : BitVec 32 := Scalar.remsi v206 v208
  let c0_i32_180 : BitVec 32 := 0#32
  let v211 : BitVec 1 := Scalar.cmpi .slt v209 c0_i32_180
  let c0_i32_181 : BitVec 32 := 0#32
  let v212 : BitVec 1 := Scalar.cmpi .slt v208 c0_i32_181
  let v213 : BitVec 1 := Scalar.xori v211 v212
  let c0_i32_179 : BitVec 32 := 0#32
  let v210 : BitVec 1 := Scalar.cmpi .ne v209 c0_i32_179
  let v214 : BitVec 1 := Scalar.andi v213 v210
  let v215 : BitVec 32 := Scalar.addi v209 v208
  let v216 : BitVec 32 := Scalar.select v214 v215 v209
  let c1_i32_186 : BitVec 32 := 1#32
  let v217 : BitVec 32 := Scalar.muli v216 c1_i32_186
  let v218 : BitVec 32 := Scalar.addi c0_i32_187 v217
  v218.toNat
def k0_dev8 (d0 : Dev nD) : Nat :=
  let c0_i32_202 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_190 : BitVec 32 := 1#32
  let v225 : BitVec 32 := Scalar.addi v2 c1_i32_190
  let c4_i32_191 : BitVec 32 := 4#32
  let c0_i32_192 : BitVec 32 := 0#32
  let v226 : BitVec 1 := Scalar.cmpi .eq c4_i32_191 c0_i32_192
  let c1_i32_193 : BitVec 32 := 1#32
  let v227 : BitVec 32 := Scalar.select v226 c1_i32_193 c4_i32_191
  let v228 : BitVec 32 := Scalar.remsi v225 v227
  let c0_i32_195 : BitVec 32 := 0#32
  let v230 : BitVec 1 := Scalar.cmpi .slt v228 c0_i32_195
  let c0_i32_196 : BitVec 32 := 0#32
  let v231 : BitVec 1 := Scalar.cmpi .slt v227 c0_i32_196
  let v232 : BitVec 1 := Scalar.xori v230 v231
  let c0_i32_194 : BitVec 32 := 0#32
  let v229 : BitVec 1 := Scalar.cmpi .ne v228 c0_i32_194
  let v233 : BitVec 1 := Scalar.andi v232 v229
  let v234 : BitVec 32 := Scalar.addi v228 v227
  let v235 : BitVec 32 := Scalar.select v233 v234 v228
  let c1_i32_201 : BitVec 32 := 1#32
  let v236 : BitVec 32 := Scalar.muli v235 c1_i32_201
  let v237 : BitVec 32 := Scalar.addi c0_i32_202 v236
  v237.toNat
def k0_dev9 (d0 : Dev nD) : Nat :=
  let c0_i32_217 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_205 : BitVec 32 := 3#32
  let v244 : BitVec 32 := Scalar.addi v2 c3_i32_205
  let c4_i32_206 : BitVec 32 := 4#32
  let c0_i32_207 : BitVec 32 := 0#32
  let v245 : BitVec 1 := Scalar.cmpi .eq c4_i32_206 c0_i32_207
  let c1_i32_208 : BitVec 32 := 1#32
  let v246 : BitVec 32 := Scalar.select v245 c1_i32_208 c4_i32_206
  let v247 : BitVec 32 := Scalar.remsi v244 v246
  let c0_i32_210 : BitVec 32 := 0#32
  let v249 : BitVec 1 := Scalar.cmpi .slt v247 c0_i32_210
  let c0_i32_211 : BitVec 32 := 0#32
  let v250 : BitVec 1 := Scalar.cmpi .slt v246 c0_i32_211
  let v251 : BitVec 1 := Scalar.xori v249 v250
  let c0_i32_209 : BitVec 32 := 0#32
  let v248 : BitVec 1 := Scalar.cmpi .ne v247 c0_i32_209
  let v252 : BitVec 1 := Scalar.andi v251 v248
  let v253 : BitVec 32 := Scalar.addi v247 v246
  let v254 : BitVec 32 := Scalar.select v252 v253 v247
  let c1_i32_216 : BitVec 32 := 1#32
  let v255 : BitVec 32 := Scalar.muli v254 c1_i32_216
  let v256 : BitVec 32 := Scalar.addi c0_i32_217 v255
  v256.toNat
def k0_off6 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_220 : BitVec 32 := 256#32
  let v264 : BitVec 32 := Scalar.muli v2 c256_i32_220
  let v265 : Index := Scalar.indexCast v264
  let c0_221 : Index := 0#32
  ![v265.toNat, 0]
def k0_off7 (d0 : Dev nD) (c1_i32_223 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v270 : BitVec 32 := Scalar.subi v2 c1_i32_223
  let c4_i32_224 : BitVec 32 := 4#32
  let c0_i32_225 : BitVec 32 := 0#32
  let v271 : BitVec 1 := Scalar.cmpi .eq c4_i32_224 c0_i32_225
  let c1_i32_226 : BitVec 32 := 1#32
  let v272 : BitVec 32 := Scalar.select v271 c1_i32_226 c4_i32_224
  let v273 : BitVec 32 := Scalar.remsi v270 v272
  let c0_i32_228 : BitVec 32 := 0#32
  let v275 : BitVec 1 := Scalar.cmpi .slt v273 c0_i32_228
  let c0_i32_229 : BitVec 32 := 0#32
  let v276 : BitVec 1 := Scalar.cmpi .slt v272 c0_i32_229
  let v277 : BitVec 1 := Scalar.xori v275 v276
  let c0_i32_227 : BitVec 32 := 0#32
  let v274 : BitVec 1 := Scalar.cmpi .ne v273 c0_i32_227
  let v278 : BitVec 1 := Scalar.andi v277 v274
  let v279 : BitVec 32 := Scalar.addi v273 v272
  let v280 : BitVec 32 := Scalar.select v278 v279 v273
  let c0_i32_236 : BitVec 32 := 0#32
  let c0_i32_237 : BitVec 32 := 0#32
  ![v280.toNat, 0, 0]
def k0_off8 (d0 : Dev nD) (c1_i32_223 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v270 : BitVec 32 := Scalar.subi v2 c1_i32_223
  let c4_i32_224 : BitVec 32 := 4#32
  let c0_i32_225 : BitVec 32 := 0#32
  let v271 : BitVec 1 := Scalar.cmpi .eq c4_i32_224 c0_i32_225
  let c1_i32_226 : BitVec 32 := 1#32
  let v272 : BitVec 32 := Scalar.select v271 c1_i32_226 c4_i32_224
  let v273 : BitVec 32 := Scalar.remsi v270 v272
  let c0_i32_228 : BitVec 32 := 0#32
  let v275 : BitVec 1 := Scalar.cmpi .slt v273 c0_i32_228
  let c0_i32_229 : BitVec 32 := 0#32
  let v276 : BitVec 1 := Scalar.cmpi .slt v272 c0_i32_229
  let v277 : BitVec 1 := Scalar.xori v275 v276
  let c0_i32_227 : BitVec 32 := 0#32
  let v274 : BitVec 1 := Scalar.cmpi .ne v273 c0_i32_227
  let v278 : BitVec 1 := Scalar.andi v277 v274
  let v279 : BitVec 32 := Scalar.addi v273 v272
  let v280 : BitVec 32 := Scalar.select v278 v279 v273
  let v287 : Index := Scalar.indexCast v280
  let c0_238 : Index := 0#32
  let c0_239 : Index := 0#32
  ![v287.toNat, 0, 0]
def k0_off9 (d0 : Dev nD) (c1_i32_223 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v270 : BitVec 32 := Scalar.subi v2 c1_i32_223
  let c4_i32_224 : BitVec 32 := 4#32
  let c0_i32_225 : BitVec 32 := 0#32
  let v271 : BitVec 1 := Scalar.cmpi .eq c4_i32_224 c0_i32_225
  let c1_i32_226 : BitVec 32 := 1#32
  let v272 : BitVec 32 := Scalar.select v271 c1_i32_226 c4_i32_224
  let v273 : BitVec 32 := Scalar.remsi v270 v272
  let c0_i32_228 : BitVec 32 := 0#32
  let v275 : BitVec 1 := Scalar.cmpi .slt v273 c0_i32_228
  let c0_i32_229 : BitVec 32 := 0#32
  let v276 : BitVec 1 := Scalar.cmpi .slt v272 c0_i32_229
  let v277 : BitVec 1 := Scalar.xori v275 v276
  let c0_i32_227 : BitVec 32 := 0#32
  let v274 : BitVec 1 := Scalar.cmpi .ne v273 c0_i32_227
  let v278 : BitVec 1 := Scalar.andi v277 v274
  let v279 : BitVec 32 := Scalar.addi v273 v272
  let v280 : BitVec 32 := Scalar.select v278 v279 v273
  let c256_i32_240 : BitVec 32 := 256#32
  let v291 : BitVec 32 := Scalar.muli v280 c256_i32_240
  let v292 : Index := Scalar.indexCast v291
  let c0_241 : Index := 0#32
  ![v292.toNat, 0]
def k0_dev10 (d0 : Dev nD) : Nat :=
  let c0_i32_323 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_305 : BitVec 32 := 2#32
  let v369 : BitVec 32 := Scalar.addi v2 c2_i32_305
  let c4_i32_306 : BitVec 32 := 4#32
  let c0_i32_307 : BitVec 32 := 0#32
  let v370 : BitVec 1 := Scalar.cmpi .eq c4_i32_306 c0_i32_307
  let c1_i32_308 : BitVec 32 := 1#32
  let v371 : BitVec 32 := Scalar.select v370 c1_i32_308 c4_i32_306
  let v372 : BitVec 32 := Scalar.remsi v369 v371
  let c0_i32_310 : BitVec 32 := 0#32
  let v374 : BitVec 1 := Scalar.cmpi .slt v372 c0_i32_310
  let c0_i32_311 : BitVec 32 := 0#32
  let v375 : BitVec 1 := Scalar.cmpi .slt v371 c0_i32_311
  let v376 : BitVec 1 := Scalar.xori v374 v375
  let c0_i32_309 : BitVec 32 := 0#32
  let v373 : BitVec 1 := Scalar.cmpi .ne v372 c0_i32_309
  let v377 : BitVec 1 := Scalar.andi v376 v373
  let v378 : BitVec 32 := Scalar.addi v372 v371
  let v379 : BitVec 32 := Scalar.select v377 v378 v372
  let c1_i32_322 : BitVec 32 := 1#32
  let v390 : BitVec 32 := Scalar.muli v379 c1_i32_322
  let v391 : BitVec 32 := Scalar.addi c0_i32_323 v390
  v391.toNat
def k0_dev11 (d0 : Dev nD) : Nat :=
  let c0_i32_346 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_328 : BitVec 32 := 1#32
  let v400 : BitVec 32 := Scalar.addi v2 c1_i32_328
  let c4_i32_329 : BitVec 32 := 4#32
  let c0_i32_330 : BitVec 32 := 0#32
  let v401 : BitVec 1 := Scalar.cmpi .eq c4_i32_329 c0_i32_330
  let c1_i32_331 : BitVec 32 := 1#32
  let v402 : BitVec 32 := Scalar.select v401 c1_i32_331 c4_i32_329
  let v403 : BitVec 32 := Scalar.remsi v400 v402
  let c0_i32_333 : BitVec 32 := 0#32
  let v405 : BitVec 1 := Scalar.cmpi .slt v403 c0_i32_333
  let c0_i32_334 : BitVec 32 := 0#32
  let v406 : BitVec 1 := Scalar.cmpi .slt v402 c0_i32_334
  let v407 : BitVec 1 := Scalar.xori v405 v406
  let c0_i32_332 : BitVec 32 := 0#32
  let v404 : BitVec 1 := Scalar.cmpi .ne v403 c0_i32_332
  let v408 : BitVec 1 := Scalar.andi v407 v404
  let v409 : BitVec 32 := Scalar.addi v403 v402
  let v410 : BitVec 32 := Scalar.select v408 v409 v403
  let c1_i32_345 : BitVec 32 := 1#32
  let v421 : BitVec 32 := Scalar.muli v410 c1_i32_345
  let v422 : BitVec 32 := Scalar.addi c0_i32_346 v421
  v422.toNat
def k0_dev12 (d0 : Dev nD) : Nat :=
  let c0_i32_369 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_351 : BitVec 32 := 3#32
  let v431 : BitVec 32 := Scalar.addi v2 c3_i32_351
  let c4_i32_352 : BitVec 32 := 4#32
  let c0_i32_353 : BitVec 32 := 0#32
  let v432 : BitVec 1 := Scalar.cmpi .eq c4_i32_352 c0_i32_353
  let c1_i32_354 : BitVec 32 := 1#32
  let v433 : BitVec 32 := Scalar.select v432 c1_i32_354 c4_i32_352
  let v434 : BitVec 32 := Scalar.remsi v431 v433
  let c0_i32_356 : BitVec 32 := 0#32
  let v436 : BitVec 1 := Scalar.cmpi .slt v434 c0_i32_356
  let c0_i32_357 : BitVec 32 := 0#32
  let v437 : BitVec 1 := Scalar.cmpi .slt v433 c0_i32_357
  let v438 : BitVec 1 := Scalar.xori v436 v437
  let c0_i32_355 : BitVec 32 := 0#32
  let v435 : BitVec 1 := Scalar.cmpi .ne v434 c0_i32_355
  let v439 : BitVec 1 := Scalar.andi v438 v435
  let v440 : BitVec 32 := Scalar.addi v434 v433
  let v441 : BitVec 32 := Scalar.select v439 v440 v434
  let c1_i32_368 : BitVec 32 := 1#32
  let v452 : BitVec 32 := Scalar.muli v441 c1_i32_368
  let v453 : BitVec 32 := Scalar.addi c0_i32_369 v452
  v453.toNat
def k0_dev13 (d0 : Dev nD) : Nat :=
  let c0_i32_463 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_451 : BitVec 32 := 2#32
  let v522 : BitVec 32 := Scalar.addi v2 c2_i32_451
  let c4_i32_452 : BitVec 32 := 4#32
  let c0_i32_453 : BitVec 32 := 0#32
  let v523 : BitVec 1 := Scalar.cmpi .eq c4_i32_452 c0_i32_453
  let c1_i32_454 : BitVec 32 := 1#32
  let v524 : BitVec 32 := Scalar.select v523 c1_i32_454 c4_i32_452
  let v525 : BitVec 32 := Scalar.remsi v522 v524
  let c0_i32_456 : BitVec 32 := 0#32
  let v527 : BitVec 1 := Scalar.cmpi .slt v525 c0_i32_456
  let c0_i32_457 : BitVec 32 := 0#32
  let v528 : BitVec 1 := Scalar.cmpi .slt v524 c0_i32_457
  let v529 : BitVec 1 := Scalar.xori v527 v528
  let c0_i32_455 : BitVec 32 := 0#32
  let v526 : BitVec 1 := Scalar.cmpi .ne v525 c0_i32_455
  let v530 : BitVec 1 := Scalar.andi v529 v526
  let v531 : BitVec 32 := Scalar.addi v525 v524
  let v532 : BitVec 32 := Scalar.select v530 v531 v525
  let c1_i32_462 : BitVec 32 := 1#32
  let v533 : BitVec 32 := Scalar.muli v532 c1_i32_462
  let v534 : BitVec 32 := Scalar.addi c0_i32_463 v533
  v534.toNat
def k0_dev14 (d0 : Dev nD) : Nat :=
  let c0_i32_478 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_466 : BitVec 32 := 1#32
  let v541 : BitVec 32 := Scalar.addi v2 c1_i32_466
  let c4_i32_467 : BitVec 32 := 4#32
  let c0_i32_468 : BitVec 32 := 0#32
  let v542 : BitVec 1 := Scalar.cmpi .eq c4_i32_467 c0_i32_468
  let c1_i32_469 : BitVec 32 := 1#32
  let v543 : BitVec 32 := Scalar.select v542 c1_i32_469 c4_i32_467
  let v544 : BitVec 32 := Scalar.remsi v541 v543
  let c0_i32_471 : BitVec 32 := 0#32
  let v546 : BitVec 1 := Scalar.cmpi .slt v544 c0_i32_471
  let c0_i32_472 : BitVec 32 := 0#32
  let v547 : BitVec 1 := Scalar.cmpi .slt v543 c0_i32_472
  let v548 : BitVec 1 := Scalar.xori v546 v547
  let c0_i32_470 : BitVec 32 := 0#32
  let v545 : BitVec 1 := Scalar.cmpi .ne v544 c0_i32_470
  let v549 : BitVec 1 := Scalar.andi v548 v545
  let v550 : BitVec 32 := Scalar.addi v544 v543
  let v551 : BitVec 32 := Scalar.select v549 v550 v544
  let c1_i32_477 : BitVec 32 := 1#32
  let v552 : BitVec 32 := Scalar.muli v551 c1_i32_477
  let v553 : BitVec 32 := Scalar.addi c0_i32_478 v552
  v553.toNat
def k0_dev15 (d0 : Dev nD) : Nat :=
  let c0_i32_493 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_481 : BitVec 32 := 3#32
  let v560 : BitVec 32 := Scalar.addi v2 c3_i32_481
  let c4_i32_482 : BitVec 32 := 4#32
  let c0_i32_483 : BitVec 32 := 0#32
  let v561 : BitVec 1 := Scalar.cmpi .eq c4_i32_482 c0_i32_483
  let c1_i32_484 : BitVec 32 := 1#32
  let v562 : BitVec 32 := Scalar.select v561 c1_i32_484 c4_i32_482
  let v563 : BitVec 32 := Scalar.remsi v560 v562
  let c0_i32_486 : BitVec 32 := 0#32
  let v565 : BitVec 1 := Scalar.cmpi .slt v563 c0_i32_486
  let c0_i32_487 : BitVec 32 := 0#32
  let v566 : BitVec 1 := Scalar.cmpi .slt v562 c0_i32_487
  let v567 : BitVec 1 := Scalar.xori v565 v566
  let c0_i32_485 : BitVec 32 := 0#32
  let v564 : BitVec 1 := Scalar.cmpi .ne v563 c0_i32_485
  let v568 : BitVec 1 := Scalar.andi v567 v564
  let v569 : BitVec 32 := Scalar.addi v563 v562
  let v570 : BitVec 32 := Scalar.select v568 v569 v563
  let c1_i32_492 : BitVec 32 := 1#32
  let v571 : BitVec 32 := Scalar.muli v570 c1_i32_492
  let v572 : BitVec 32 := Scalar.addi c0_i32_493 v571
  v572.toNat
def k0_off10 (d0 : Dev nD) (c2_i32_586 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v692 : BitVec 32 := Scalar.addi v2 c2_i32_586
  let c4_i32_587 : BitVec 32 := 4#32
  let c0_i32_588 : BitVec 32 := 0#32
  let v693 : BitVec 1 := Scalar.cmpi .eq c4_i32_587 c0_i32_588
  let c1_i32_589 : BitVec 32 := 1#32
  let v694 : BitVec 32 := Scalar.select v693 c1_i32_589 c4_i32_587
  let v695 : BitVec 32 := Scalar.remsi v692 v694
  let c0_i32_591 : BitVec 32 := 0#32
  let v697 : BitVec 1 := Scalar.cmpi .slt v695 c0_i32_591
  let c0_i32_592 : BitVec 32 := 0#32
  let v698 : BitVec 1 := Scalar.cmpi .slt v694 c0_i32_592
  let v699 : BitVec 1 := Scalar.xori v697 v698
  let c0_i32_590 : BitVec 32 := 0#32
  let v696 : BitVec 1 := Scalar.cmpi .ne v695 c0_i32_590
  let v700 : BitVec 1 := Scalar.andi v699 v696
  let v701 : BitVec 32 := Scalar.addi v695 v694
  let v702 : BitVec 32 := Scalar.select v700 v701 v695
  let c16_i32 : BitVec 32 := 16#32
  let v703 : BitVec 32 := Scalar.muli v702 c16_i32
  let c0_i32_602 : BitVec 32 := 0#32
  ![v703.toNat, 0]
def k0_dev16 (d0 : Dev nD) : Nat :=
  let c0_i32_599 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_586 : BitVec 32 := 2#32
  let v692 : BitVec 32 := Scalar.addi v2 c2_i32_586
  let c4_i32_587 : BitVec 32 := 4#32
  let c0_i32_588 : BitVec 32 := 0#32
  let v693 : BitVec 1 := Scalar.cmpi .eq c4_i32_587 c0_i32_588
  let c1_i32_589 : BitVec 32 := 1#32
  let v694 : BitVec 32 := Scalar.select v693 c1_i32_589 c4_i32_587
  let v695 : BitVec 32 := Scalar.remsi v692 v694
  let c0_i32_591 : BitVec 32 := 0#32
  let v697 : BitVec 1 := Scalar.cmpi .slt v695 c0_i32_591
  let c0_i32_592 : BitVec 32 := 0#32
  let v698 : BitVec 1 := Scalar.cmpi .slt v694 c0_i32_592
  let v699 : BitVec 1 := Scalar.xori v697 v698
  let c0_i32_590 : BitVec 32 := 0#32
  let v696 : BitVec 1 := Scalar.cmpi .ne v695 c0_i32_590
  let v700 : BitVec 1 := Scalar.andi v699 v696
  let v701 : BitVec 32 := Scalar.addi v695 v694
  let v702 : BitVec 32 := Scalar.select v700 v701 v695
  let c1_i32_598 : BitVec 32 := 1#32
  let v704 : BitVec 32 := Scalar.muli v702 c1_i32_598
  let v705 : BitVec 32 := Scalar.addi c0_i32_599 v704
  v705.toNat
def k0_dev17 (d0 : Dev nD) : Nat :=
  let c0_i32_617 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_603 : BitVec 32 := 1#32
  let v713 : BitVec 32 := Scalar.addi v2 c1_i32_603
  let c4_i32_604 : BitVec 32 := 4#32
  let c0_i32_605 : BitVec 32 := 0#32
  let v714 : BitVec 1 := Scalar.cmpi .eq c4_i32_604 c0_i32_605
  let c1_i32_606 : BitVec 32 := 1#32
  let v715 : BitVec 32 := Scalar.select v714 c1_i32_606 c4_i32_604
  let v716 : BitVec 32 := Scalar.remsi v713 v715
  let c0_i32_608 : BitVec 32 := 0#32
  let v718 : BitVec 1 := Scalar.cmpi .slt v716 c0_i32_608
  let c0_i32_609 : BitVec 32 := 0#32
  let v719 : BitVec 1 := Scalar.cmpi .slt v715 c0_i32_609
  let v720 : BitVec 1 := Scalar.xori v718 v719
  let c0_i32_607 : BitVec 32 := 0#32
  let v717 : BitVec 1 := Scalar.cmpi .ne v716 c0_i32_607
  let v721 : BitVec 1 := Scalar.andi v720 v717
  let v722 : BitVec 32 := Scalar.addi v716 v715
  let v723 : BitVec 32 := Scalar.select v721 v722 v716
  let c1_i32_616 : BitVec 32 := 1#32
  let v725 : BitVec 32 := Scalar.muli v723 c1_i32_616
  let v726 : BitVec 32 := Scalar.addi c0_i32_617 v725
  v726.toNat
def k0_dev18 (d0 : Dev nD) : Nat :=
  let c0_i32_635 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_621 : BitVec 32 := 3#32
  let v734 : BitVec 32 := Scalar.addi v2 c3_i32_621
  let c4_i32_622 : BitVec 32 := 4#32
  let c0_i32_623 : BitVec 32 := 0#32
  let v735 : BitVec 1 := Scalar.cmpi .eq c4_i32_622 c0_i32_623
  let c1_i32_624 : BitVec 32 := 1#32
  let v736 : BitVec 32 := Scalar.select v735 c1_i32_624 c4_i32_622
  let v737 : BitVec 32 := Scalar.remsi v734 v736
  let c0_i32_626 : BitVec 32 := 0#32
  let v739 : BitVec 1 := Scalar.cmpi .slt v737 c0_i32_626
  let c0_i32_627 : BitVec 32 := 0#32
  let v740 : BitVec 1 := Scalar.cmpi .slt v736 c0_i32_627
  let v741 : BitVec 1 := Scalar.xori v739 v740
  let c0_i32_625 : BitVec 32 := 0#32
  let v738 : BitVec 1 := Scalar.cmpi .ne v737 c0_i32_625
  let v742 : BitVec 1 := Scalar.andi v741 v738
  let v743 : BitVec 32 := Scalar.addi v737 v736
  let v744 : BitVec 32 := Scalar.select v742 v743 v737
  let c1_i32_634 : BitVec 32 := 1#32
  let v746 : BitVec 32 := Scalar.muli v744 c1_i32_634
  let v747 : BitVec 32 := Scalar.addi c0_i32_635 v746
  v747.toNat
def k0_off11 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c16_i32_696 : BitVec 32 := 16#32
  let v791 : BitVec 32 := Scalar.muli v2 c16_i32_696
  let v792 : Index := Scalar.indexCast v791
  let c0_697 : Index := 0#32
  ![v792.toNat, 0]
abbrev stage0_0 : Fin 1 → Memref sig .tc .vmem S64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S64x1024 : Shape := ⟨2, ![64, 1024]⟩
abbrev S1024x8192 : Shape := ⟨2, ![1024, 8192]⟩
abbrev S8192x1024 : Shape := ⟨2, ![8192, 1024]⟩
abbrev S64x8192 : Shape := ⟨2, ![64, 8192]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S64x1024, .f32⟩
  | .hbm, ⟨1, _⟩ => ⟨S1024x8192, .f32⟩
  | .hbm, ⟨2, _⟩ => ⟨S1024x8192, .f32⟩
  | .hbm, ⟨3, _⟩ => ⟨S1024x8192, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S64x8192, .f32⟩
  | .hbm, ⟨8, _⟩ => ⟨S_, .f32⟩
  | .hbm, ⟨9, _⟩ => ⟨S64x8192, .f32⟩
  | .hbm, ⟨10, _⟩ => ⟨S64x8192, .f32⟩
  | .hbm, ⟨11, _⟩ => ⟨S64x1024, .f32⟩
  | .hbm, ⟨12, _⟩ => ⟨S64x8192, .f32⟩
  | .hbm, ⟨13, _⟩ => ⟨S_, .f32⟩
  | .hbm, ⟨14, _⟩ => ⟨S64x8192, .f32⟩
  | .hbm, ⟨15, _⟩ => ⟨S64x8192, .f32⟩
  | .hbm, ⟨16, _⟩ => ⟨S64x1024, .f32⟩
  | .hbm, ⟨17, _⟩ => ⟨S64x8192, .f32⟩
  | .hbm, ⟨18, _⟩ => ⟨S_, .f32⟩
  | .hbm, ⟨19, _⟩ => ⟨S64x8192, .f32⟩
  | .hbm, ⟨20, _⟩ => ⟨S64x8192, .f32⟩
  | .hbm, ⟨21, _⟩ => ⟨S64x1024, .f32⟩
  | _, _ => ⟨S64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.Common.lean ====
/-
# The four devices' protocol: cells, buffers, the schedule of messages, what each device owes

Four devices sit on a ring. Every device signals the three others on the runtime's barrier semaphore and waits for
three units on its own; what a signal hands over is the sender's landing buffers for the receiver. After that there are
five exchanges. In exchange `p` every device sends one message to each of the three others: the message in slot `s` goes
from `c` to `tgt c s`, and a device's slot `s` is filled by `src d s`. Exchanges 0 and 2 bring the blocks of a product to
the devices that own them, exchanges 1 and 3 bring every device's sum to all devices, exchange 4 brings the rows of the
last product to the devices that own them. Each exchange has a send semaphore and a receive semaphore per slot.

A message of exchange 1 also hands back the landing slot the receiver fills in exchange 2, and a message of exchange 2
hands back the row of the gathered sums the receiver fills in exchange 3: both have been read by then.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.MemrefSat
public import Idealize.ShloMosaic.Lib.ViewIndex
public import Idealize.ShloMosaic.Lib.Tactic

@[expose] public section

noncomputable section

namespace Cert.MeshProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's copy and the exchanges' own, with three duty names -/

/-- The counter of the rounds. -/
abbrev UB : Type := URounds (GSem nD τ sig) (Fin 3)
/-- The ghost state: the launch's and the rounds'. -/
abbrev UU : Type := UR sig nD τ × UB

local notation "𝕄" => MT nD τ sig Unit (Elt F) ℕ UU ℕ

/-- Where the launch's ghost state lies in it; -/
abbrev EP : Emb (UR sig nD τ) (MT nD τ sig Unit (Elt F) ℕ UU ℕ) := embL
/-- where the rounds' lies. -/
abbrev ER : Emb UB (MT nD τ sig Unit (Elt F) ℕ UU ℕ) := embR

/-! ## The ring of devices -/

/-- The device `k` places after `c`. -/
def rot (k : ℕ) (c : Dev nD) : Dev nD := ⟨(c.val + k) % 4, Nat.mod_lt _ (by decide)⟩
/-- The device a message in slot `s` from `c` goes to; -/
def tgt (c : Dev nD) (s : Fin 3) : Dev nD := rot (3 - s.val) c
/-- the device that fills slot `s` of `d`. -/
def src (d : Dev nD) (s : Fin 3) : Dev nD := rot (s.val + 1) d

/-- The device that fills slot `s` of the device which `c` sends slot `s` to is `c`; -/
theorem src_tgt (c : Dev nD) (s : Fin 3) : src (tgt c s) s = c := by revert c s; decide
/-- and the other way round. -/
theorem tgt_src (c : Dev nD) (s : Fin 3) : tgt (src c s) s = c := by revert c s; decide
/-- Sending in the opposite slot goes to the device that slot `s` comes from; -/
theorem tgt_rev (c : Dev nD) (s : Fin 3) : tgt c (Fin.rev s) = src c s := by revert c s; decide
/-- the opposite slot comes from the device that slot `s` goes to. -/
theorem src_rev (c : Dev nD) (s : Fin 3) : src c (Fin.rev s) = tgt c s := by revert c s; decide

/-- Sending in slot `s` moves every device's message round the ring. -/
def around (s : Fin 3) : Dev nD ≃ Dev nD := ⟨fun c => tgt c s, fun c => src c s, fun c => src_tgt c s, fun c => tgt_src c s⟩

/-! ## The cells -/

/-- A device's cells: the barrier (`none`), and of each exchange and slot the send cell (`false`) and the receive cell (`true`). -/
abbrev Cell : Type := Option (Bool × Fin 5 × Fin 3)

/-- The runtime's barrier semaphore. -/
abbrev barS : Sem sig := (SemArray.scalar (sig.barrier 0 rfl) : Sems sig S_).sem
/-- The send and the receive semaphore of exchange `p`, slot `s`. -/
def sendS (p : Fin 5) (s : Fin 3) : DmaSem sig := ⟨8 + (3 * p.val + s.val), by show _ < 38; omega⟩
/-- The receive semaphore of exchange `p`, slot `s`. -/
def recvS (p : Fin 5) (s : Fin 3) : DmaSem sig := ⟨23 + (3 * p.val + s.val), by show _ < 38; omega⟩

/-- The semaphore of a cell. -/
def csem : Cell → SemLoc sig
  | none => .reg barS
  | some (false, p, s) => .dma (sendS p s)
  | some (true, p, s) => .dma (recvS p s)

/-- Which of the exchanges' cells a semaphore is. -/
def kindOf : SemLoc sig → Option Cell
  | .reg s => if s = barS then some none else none
  | .dma q =>
    if q.val < 8 then none
    else if q.val < 23 then some (some (false, Fin.ofNat 5 ((q.val - 8) / 3), Fin.ofNat 3 ((q.val - 8) % 3)))
    else some (some (true, Fin.ofNat 5 ((q.val - 23) / 3), Fin.ofNat 3 ((q.val - 23) % 3)))

/-- A cell's semaphore names the cell; -/
theorem kindOf_csem : ∀ k : Cell, kindOf (csem k) = some k := by decide
/-- so different cells have different semaphores. -/
theorem csem_injective : Function.Injective csem := fun a b h =>
  Option.some.inj (by rw [← kindOf_csem a, h, kindOf_csem])

/-- Device `c`'s barrier cell, -/
abbrev barCell (c : Dev nD) : GSem nD τ sig := ((c : Thread nD τ), .reg barS)
/-- its send cell of exchange `p`, slot `s`, -/
abbrev sendCell (p : Fin 5) (s : Fin 3) (c : Dev nD) : GSem nD τ sig := ((c : Thread nD τ), .dma (sendS p s))
/-- its receive cell, -/
abbrev recvCell (p : Fin 5) (s : Fin 3) (c : Dev nD) : GSem nD τ sig := ((c : Thread nD τ), .dma (recvS p s))
/-- and any cell of any device. -/
abbrev kcell (ck : Dev nD × Cell) : GSem nD τ sig := ((ck.1 : Thread nD τ), csem ck.2)

/-! ## The buffers -/

/-- Row `r` lies in a buffer of four blocks, -/
theorem inb_part (r : Fin 4) : ∀ a, (![r.val, 0, 0] : Fin 3 → ℕ) a + S1x64x256.size a ≤ S4x64x256.size a := by revert r; decide
/-- slot `s` in a buffer of three, -/
theorem inb_rs (s : Fin 3) : ∀ a, (![s.val, 0, 0] : Fin 3 → ℕ) a + S1x64x256.size a ≤ S3x64x256.size a := by revert s; decide
/-- the sixteen rows of device `r` in the last product, -/
theorem inb_p2 (r : Fin 4) : ∀ a, (![16 * r.val, 0] : Fin 2 → ℕ) a + S16x1024.size a ≤ S64x1024.size a := by revert r; decide
/-- slot `s` in the last landing buffer. -/
theorem inb_rs2 (s : Fin 3) : ∀ a, (![s.val, 0, 0] : Fin 3 → ℕ) a + S1x16x1024.size a ≤ S3x16x1024.size a := by revert s; decide

/-- Row `r` of the gathered sums; the block of the product for device `r`; the landing slot `s` of the blocks. -/
abbrev xS (r : Dev nD) : Memref sig .tc .vmem S1x64x256 .f32 :=
  (Memref.whole cc0_scratch0).slice (Rect.unit (s := S4x64x256) ![r.val, 0, 0] S1x64x256.size (inb_part r)) (fun _ => rfl)
/-- The block of the product for device `r`. -/
abbrev partS (r : Dev nD) : Memref sig .tc .vmem S1x64x256 .f32 :=
  (Memref.whole cc0_scratch1).slice (Rect.unit (s := S4x64x256) ![r.val, 0, 0] S1x64x256.size (inb_part r)) (fun _ => rfl)
/-- The landing slot `s` of the blocks. -/
abbrev rsS (s : Fin 3) : Memref sig .tc .vmem S1x64x256 .f32 :=
  (Memref.whole cc0_scratch3).slice (Rect.unit (s := S3x64x256) ![s.val, 0, 0] S1x64x256.size (inb_rs s)) (fun _ => rfl)
/-- The device's sum. -/
abbrev redM : Memref sig .tc .vmem S64x256 .f32 := Memref.whole cc0_scratch2
/-- The rows of the last product for device `r`; the landing slot `s` of those rows. -/
abbrev p2S (r : Dev nD) : Memref sig .tc .vmem S16x1024 .f32 :=
  (Memref.whole cc0_scratch4).slice (Rect.unit (s := S64x1024) ![16 * r.val, 0] S16x1024.size (inb_p2 r)) (fun _ => rfl)
/-- The landing slot `s` of the last rows. -/
abbrev rs2S (s : Fin 3) : Memref sig .tc .vmem S1x16x1024 .f32 :=
  (Memref.whole cc0_scratch5).slice (Rect.unit (s := S3x16x1024) ![s.val, 0, 0] S1x16x1024.size (inb_rs2 s)) (fun _ => rfl)

/-- The credit of one message. -/
abbrev N : ℕ := redM.view.dmaCredit
/-- A message's credit is positive. -/
theorem N_pos : 0 < N := View.dmaCredit_pos _ (by decide)

/-- Ownership of a buffer's slice at some contents. -/
def any {sp : Space} {sh : Shape} {e : EltTy} (c : Dev nD) (M : Memref sig .tc sp sh e) : sProp 𝕄 := iprop(∃ X, ownsTc c M fullShare X)

instance any_storable {sp : Space} {sh : Shape} {e : EltTy} (c : Dev nD) (M : Memref sig .tc sp sh e) : BI.Storable (upEmb : UEmb _ 𝕄) (any (F := F) c M) := by
  unfold any; infer_instance

/-- The thirds of the sum's share that back the three messages carrying it. -/
def third : Fin 3 → PosShare TreeShare
  | 0 => fullShare.left
  | 1 => fullShare.right.left
  | 2 => fullShare.right.right

/-! ## What the messages carry -/

/-- The contents of all messages: the block for device `d` that `c` computes in layer `l`, the sum of `c` in layer `l`, the
    rows for device `d` of `c`'s last product. -/
structure Vals (F : FTy → Type) where
  part : Fin 2 → Dev nD → Dev nD → Vec F S1x64x256 .f32
  red : Fin 2 → Dev nD → Vec F S64x256 .f32
  last : Dev nD → Dev nD → Vec F S16x1024 .f32

/-- A block as it lies in a row of its buffer. -/
def up (X : Vec F S64x256 .f32) : Vec F S1x64x256 .f32 := shapeCast S1x64x256 X shapeCasts_S64x256_S1x64x256
/-- Sixteen rows fit a slot of the last landing buffer. -/
theorem shapeCasts_last : S16x1024.ShapeCasts S1x16x1024 := by decide
/-- The sixteen rows as they lie in a slot. -/
def up2 (X : Vec F S16x1024 .f32) : Vec F S1x16x1024 .f32 := shapeCast S1x16x1024 X shapeCasts_last

section Schedule
variable (V : Vals F)

/-- What the signal with duty `s` hands device `d`: the sender's buffers the messages of slot `s` from `d` land in. -/
def barPay (d : Dev nD) (s : Fin 3) : sProp 𝕄 := iprop(any (tgt d s) (rsS s) ∗ any (tgt d s) (xS d) ∗ any (tgt d s) (rs2S s))

/-- What comes back with a send cell: the message's source. -/
def sendPay (p : Fin 5) (s : Fin 3) (c : Dev nD) : sProp 𝕄 := match p with
  | 0 => ownsTc c (partS (tgt c s)) fullShare (V.part 0 c (tgt c s))
  | 1 => ownsTc c redM (third s) (V.red 0 c)
  | 2 => ownsTc c (partS (tgt c s)) fullShare (V.part 1 c (tgt c s))
  | 3 => ownsTc c redM (third s) (V.red 1 c)
  | 4 => ownsTc c (p2S (tgt c s)) fullShare (V.last c (tgt c s))

/-- What comes with a receive cell: the landing buffer filled, and for the next exchange the sender's buffer that `d` fills. -/
def recvPay (p : Fin 5) (s : Fin 3) (d : Dev nD) : sProp 𝕄 := match p with
  | 0 => ownsTc d (rsS s) fullShare (V.part 0 (src d s) d)
  | 1 => iprop(ownsTc d (xS (src d s)) fullShare (up (V.red 0 (src d s))) ∗ any (src d s) (rsS (Fin.rev s)))
  | 2 => iprop(ownsTc d (rsS s) fullShare (V.part 1 (src d s) d) ∗ any (src d s) (xS d))
  | 3 => ownsTc d (xS (src d s)) fullShare (up (V.red 1 (src d s)))
  | 4 => ownsTc d (rs2S s) fullShare (up2 (V.last (src d s) d))

/-- What a payment to cell `k` of device `d` with duty `j` hands over. -/
def payOf (k : Cell) (d : Dev nD) (j : Fin 3) : sProp 𝕄 := match k with
  | none => barPay d j
  | some (false, p, s) => sendPay V p s d
  | some (true, p, s) => recvPay V p s d

/-- One round. A barrier cell has three duties of one unit; a send or receive cell one duty of a message's credit. -/
def sched : Rounds.Schedule (GSem nD τ sig) (Fin 3) 𝕄 where
  duties g r := if r = 0 ∧ g.1.2 = .tc then (match kindOf g.2 with | none => ∅ | some none => Finset.univ | some (some _) => {0}) else ∅
  unitless _ := False
  amount g _ _ := match g.2 with | .reg _ => 1 | .dma _ => N
  payload g _ j := match kindOf g.2 with | none => iprop(emp) | some k => payOf V k g.1.1 j
  amount_pos g _ _ _ := by
    rcases g with ⟨_, _ | _⟩
    · exact Nat.one_pos
    · exact N_pos

instance payOf_storable (k : Cell) (d : Dev nD) (j : Fin 3) : BI.Storable (upEmb : UEmb _ 𝕄) (payOf V k d j) := by
  rcases k with _ | ⟨_ | _, p, s⟩
  · show BI.Storable upEmb (barPay d j); unfold barPay; infer_instance
  · show BI.Storable upEmb (sendPay V p s d); unfold sendPay; fin_cases p <;> infer_instance
  · show BI.Storable upEmb (recvPay V p s d); unfold recvPay; fin_cases p <;> infer_instance

instance sched_storable (g : GSem nD τ sig) (r : ℕ) (j : Fin 3) : BI.Storable (upEmb : UEmb _ 𝕄) ((sched V).payload g r j) := by
  show BI.Storable upEmb (match kindOf g.2 with | none => iprop(emp) | some k => payOf V k g.1.1 j)
  split <;> infer_instance

/-- The barrier cell has all three duties, -/
theorem duties_bar (c : Dev nD) : (sched V).duties (barCell c) 0 = Finset.univ := rfl
/-- a send cell one, -/
theorem duties_send (p : Fin 5) (s : Fin 3) (c : Dev nD) : (sched V).duties (sendCell p s c) 0 = {0} := by
  dsimp only [sched]; rw [if_pos ⟨rfl, rfl⟩, show kindOf (.dma (sendS p s)) = _ from kindOf_csem (some (false, p, s))]
/-- a receive cell one, -/
theorem duties_recv (p : Fin 5) (s : Fin 3) (c : Dev nD) : (sched V).duties (recvCell p s c) 0 = {0} := by
  dsimp only [sched]; rw [if_pos ⟨rfl, rfl⟩, show kindOf (.dma (recvS p s)) = _ from kindOf_csem (some (true, p, s))]
/-- and after its round no cell has any. -/
theorem duties_later (g : GSem nD τ sig) : ∀ r, 1 ≤ r → (sched V).duties g r = ∅ :=
  fun r hr => by dsimp only [sched]; rw [if_neg fun h => by omega]

/-- What the barrier cell gets, -/
theorem payload_bar (c : Dev nD) (j : Fin 3) : (sched V).payload (barCell c) 0 j = barPay c j := rfl
/-- what a send cell gets, -/
theorem payload_send (p : Fin 5) (s : Fin 3) (c : Dev nD) (j : Fin 3) : (sched V).payload (sendCell p s c) 0 j = sendPay V p s c := by
  dsimp only [sched]; rw [show kindOf (.dma (sendS p s)) = _ from kindOf_csem (some (false, p, s))]; rfl
/-- what a receive cell gets. -/
theorem payload_recv (p : Fin 5) (s : Fin 3) (c : Dev nD) (j : Fin 3) : (sched V).payload (recvCell p s c) 0 j = recvPay V p s c := by
  dsimp only [sched]; rw [show kindOf (.dma (recvS p s)) = _ from kindOf_csem (some (true, p, s))]; rfl

/-- The barrier waits for three units, -/
theorem expect_bar (c : Dev nD) : (sched V).expect (barCell c) 0 = 3 := by
  unfold Schedule.expect Schedule.amountOf; rw [duties_bar]; rfl
/-- a send cell for a message's credit, -/
theorem expect_send (p : Fin 5) (s : Fin 3) (c : Dev nD) : (sched V).expect (sendCell p s c) 0 = N := by
  unfold Schedule.expect Schedule.amountOf; rw [duties_send, Finset.sum_singleton]; rfl
/-- and so does a receive cell. -/
theorem expect_recv (p : Fin 5) (s : Fin 3) (c : Dev nD) : (sched V).expect (recvCell p s c) 0 = N := by
  unfold Schedule.expect Schedule.amountOf; rw [duties_recv, Finset.sum_singleton]; rfl

/-- All payloads of the barrier cell, -/
theorem rest_bar (c : Dev nD) : bigSep ((sched V).duties (barCell c) 0 \ ∅) (fun j => (sched V).payload (barCell c) 0 j)
    = iprop(barPay c 0 ∗ barPay c 1 ∗ barPay c 2) := by
  rw [Finset.sdiff_empty, duties_bar, bigSep_univ_eq_bigSepL [0, 1, 2] (by decide) (by decide)]; rfl
/-- of a send cell, -/
theorem rest_send (p : Fin 5) (s : Fin 3) (c : Dev nD) :
    bigSep ((sched V).duties (sendCell p s c) 0 \ ∅) (fun j => (sched V).payload (sendCell p s c) 0 j) = sendPay V p s c := by
  rw [Finset.sdiff_empty, duties_send, bigSep_singleton, payload_send]
/-- of a receive cell. -/
theorem rest_recv (p : Fin 5) (s : Fin 3) (c : Dev nD) :
    bigSep ((sched V).duties (recvCell p s c) 0 \ ∅) (fun j => (sched V).payload (recvCell p s c) 0 j) = recvPay V p s c := by
  rw [Finset.sdiff_empty, duties_recv, bigSep_singleton, payload_recv]

end Schedule

/-! ## What a device owes, payment by payment; the levels -/

/-- A payment to another device: a barrier signal or a message. -/
abbrev Pay : Type := Fin 3 ⊕ (Fin 5 × Fin 3)

/-- The device a barrier signal with duty `s` goes to. -/
abbrev sig_to (c : Dev nD) (s : Fin 3) : Dev nD := src c s

/-- The cell a payment goes to, -/
def pcell (c : Dev nD) : Pay → GSem nD τ sig
  | .inl s => barCell (src c s)
  | .inr (p, s) => recvCell p s (tgt c s)
/-- and its amount. -/
def pamt : Pay → ℕ
  | .inl _ => 1
  | .inr _ => N

/-- The tally of a list of payments, the first the last summand. -/
def tal (c : Dev nD) : List Pay → CellTallies nD τ sig Unit
  | [] => 0
  | x :: l => tal c l + tallyAt (pcell c x) () (pamt x)

/-- All payments of a device in program order. -/
def pays : List Pay :=
  [.inl 0, .inl 1, .inl 2,
   .inr (0, 1), .inr (0, 2), .inr (0, 0), .inr (1, 1), .inr (1, 2), .inr (1, 0), .inr (2, 1), .inr (2, 2), .inr (2, 0),
   .inr (3, 1), .inr (3, 2), .inr (3, 0), .inr (4, 1), .inr (4, 2), .inr (4, 0)]

/-- What a device owes after its first `i` payments. -/
def ow (c : Dev nD) (i : ℕ) : CellTallies nD τ sig Unit := tal c (pays.drop i)

/-- One level index on the cells of a TensorCore, none elsewhere. -/
def L (g : GSem nD τ sig) : Finset Unit := if g.1.2 = .tc then {()} else ∅
/-- The level of a semaphore: the barrier 1, the receive cells of exchange `p` at `2 + p`, every other 0. -/
def lev (sm : SemLoc sig) : ℕ := match kindOf sm with
  | some none => 1
  | some (some (true, p, _)) => 2 + p.val
  | _ => 0
/-- The level of a cell. -/
def lv (g : GSem nD τ sig) (_ : Unit) : ℕ := lev g.2

/-- No index on a cell that is not a TensorCore's; -/
theorem L_of_ne (g : GSem nD τ sig) (h : g.1.2 ≠ .tc) : L g = ∅ := if_neg h
/-- the one index on a TensorCore's. -/
theorem L_tc (c : Dev nD) (sm : SemLoc sig) : L ((c : Thread nD τ), sm) = {()} := if_pos rfl

/-- The level of a payment's cell. -/
def plev : Pay → ℕ
  | .inl _ => 1
  | .inr (p, _) => 2 + p.val

/-- Send cells have level zero, -/
theorem lev_send (p : Fin 5) (s : Fin 3) : lev (.dma (sendS p s)) = 0 := by
  unfold lev; rw [show kindOf (.dma (sendS p s)) = _ from kindOf_csem (some (false, p, s))]
/-- the receive cells of exchange `p` have level `2 + p`, -/
theorem lev_recv (p : Fin 5) (s : Fin 3) : lev (.dma (recvS p s)) = 2 + p.val := by
  unfold lev; rw [show kindOf (.dma (recvS p s)) = _ from kindOf_csem (some (true, p, s))]

/-- the cell of a payment has the payment's level, -/
theorem lev_pcell (c : Dev nD) (x : Pay) : lev (pcell c x).2 = plev x := by
  rcases x with s | ⟨p, s⟩
  · rfl
  · exact lev_recv p s
/-- and is a TensorCore's. -/
theorem pcell_tc (c : Dev nD) (x : Pay) : (pcell c x).1.2 = .tc := by rcases x with s | ⟨p, s⟩ <;> rfl

/-- A cell with something in the tally is the cell of a payment in the list. -/
theorem tal_pos {c : Dev nD} {g : GSem nD τ sig} {u : Unit} : ∀ {l : List Pay}, 0 < tal c l g u → ∃ x ∈ l, g = pcell c x
  | [], h => absurd h (Nat.lt_irrefl 0)
  | x :: l, h => by
    unfold tal at h
    rw [Pi.add_apply, Finsupp.add_apply, tallyAt_apply] at h
    by_cases hg : g = pcell c x ∧ u = ()
    · exact ⟨x, List.mem_cons_self .., hg.1⟩
    · rw [if_neg hg, Nat.add_zero] at h
      obtain ⟨y, hy, e⟩ := tal_pos h
      exact ⟨y, List.mem_cons_of_mem _ hy, e⟩

/-- A device may wait on a cell while every payment it still owes goes to a cell of a higher level. -/
theorem mayWait (c : Dev nD) (sm : SemLoc sig) (l : List Pay) (h : ∀ x ∈ l, lev sm < plev x) :
    (levAts L lv : sProp 𝕄) ⊢ MayWait (c : Thread nD τ) sm () (tal c l) :=
  MayOwe.of_cut (L := L) (lev := lv) (lev sm) (fun p hp => by rw [Finset.mem_singleton.mp hp, L_tc]; exact Finset.mem_singleton_self _)
    (fun g u hg => by
      obtain ⟨x, -, rfl⟩ := tal_pos hg
      unfold L; rw [if_pos (pcell_tc c x)]; exact Finset.mem_singleton_self _)
    (fun p hp => by rw [Finset.mem_singleton.mp hp]; exact le_rfl)
    (fun g u hg => by
      obtain ⟨x, hx, rfl⟩ := tal_pos hg
      show lev sm < lev (pcell c x).2
      rw [lev_pcell]; exact h x hx)

/-! ## The invariants and the ghost state -/

section Ghost
variable (V : Vals F) (K : Dev nD × Cell → ℕ)

/-- The invariants of all cells of all devices under the names `K`, and that each has reached its round. -/
def records : sProp 𝕄 :=
  iprop((bigSep Finset.univ fun ck : Dev nD × Cell => cellInv ER (sched V) (K ck) (kcell ck))
    ∗ bigSep Finset.univ fun ck : Dev nD × Cell => reached ER (kcell ck) 0)

instance records_persistent : BI.Persistent (records V K) := by unfold records; infer_instance

/-- The invariant of one cell, out of all; -/
theorem inv_at (ck : Dev nD × Cell) : records V K ⊢ cellInv ER (sched V) (K ck) (kcell ck) := by
  unfold records; exact sep_elim_left.trans (bigSep_elim (Finset.mem_univ ck))
/-- that one cell has reached its round. -/
theorem reached_at (ck : Dev nD × Cell) : records V K ⊢ (reached ER (kcell ck) 0 : sProp 𝕄) := by
  unfold records; exact sep_elim_right.trans (bigSep_elim (Finset.mem_univ ck))

/-- The invariants with the level facts. -/
def ctx : sProp 𝕄 := iprop(records V K ∗ levAts L lv)
instance ctx_persistent : BI.Persistent (ctx V K) := by unfold ctx; infer_instance

/-- What device `c` sends the message of exchange `p`, slot `s`, with; -/
def Snd (p : Fin 5) (s : Fin 3) (c : Dev nD) : sProp 𝕄 :=
  iprop(dutyTok ER (sendCell p s c) 0 0 ∗ dutyTok ER (recvCell p s (tgt c s)) 0 0 ∗ atPos ER (sendCell p s c) 0 ∅ 0)
/-- what it holds once it is sent, to wait for its completion with; -/
def Snt (p : Fin 5) (s : Fin 3) (c : Dev nD) : sProp 𝕄 :=
  iprop(cred (tallyAt (sendCell p s c) () N) ∗ atPos ER (sendCell p s c) 0 ∅ 0)
/-- what it waits for the message in its own slot with. -/
def Rcv (p : Fin 5) (s : Fin 3) (c : Dev nD) : sProp 𝕄 :=
  iprop(cred (tallyAt (recvCell p s c) () N) ∗ atPos ER (recvCell p s c) 0 ∅ 0)

end Ghost

end Cert.MeshProof

end

end
-- ==== Proof.Steps.lean ====
/-
# One operation at a time: loads, stores, signals, messages and waits over the protocol's resources

Each lemma says what one operation of the kernel does to the resources of `Common`: a load gives what is owned, a store
replaces it, a signal or a message pays the next payment a device owes, a wait on a cell brings the cell's payload and
the closed cell. Offsets and device numbers are the program's own terms, with an equation that names their value.
-/
module

public import proofs.«01_k».proof.Proof.Common

@[expose] public section

noncomputable section

namespace Cert.MeshProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- No loop variants are needed. -/
abbrev 𝒱₀ : Variants := Variants.none

/-- The weakest precondition of a program of device `c`'s TensorCore. -/
abbrev WP {α : Type} (c : Dev nD) (P : Prog (TpuEff nD τ sig (Elt F) Λ₀ .tc) α) (Q : α → sProp 𝕄) : sProp 𝕄 :=
  wp frame (wpE (defs₀ (F := F)) 𝒱₀ (c : Thread nD τ) none) Set.univ P Q

/-! ## Loads and stores -/

section Mem
variable {α : Type} {cs : CoreSpace} {s : Shape} {e : EltTy} (M : Memref sig .tc cs s e)

/-- A load of a slice that is owned gives its contents. -/
theorem wp_ld (c : Dev nD) {off off' size : Fin s.rank → ℕ} {h : ∀ a, off a + size a ≤ s.size a} {h' : ∀ a, off' a + size a ≤ s.size a}
    (ho : off = off') {q : PosShare TreeShare} {X : (⟨s.rank, size⟩ : Shape).Idx → Elt F e} {hl : M.view.LoadsAt (Rect.unit off size h).toLoadRect}
    {k : ((⟨s.rank, size⟩ : Shape).Idx → Elt F e) → Prog (TpuEff nD τ sig (Elt F) Λ₀ .tc) α} {Q : α → sProp 𝕄} :
    ownsTc c (M.slice (Rect.unit off' size h') (fun _ => rfl)) q X
      ⊢ iprop((ownsTc c (M.slice (Rect.unit off' size h') (fun _ => rfl)) q X -∗ WP c (k X) Q)
        -∗ WP c (.op (.load M (Rect.unit off size h).toLoadRect hl) k) Q) := by
  subst ho
  unfold ownsTc owns
  iintro ⟨%f, %hf, H⟩ Hk
  subst hf
  iapply (wp_load_rect 𝒱₀ (c : Thread nD τ) none Set.univ (m := M) (r := Rect.unit off size h) (subset_refl _)) $$ H
  iintro H
  iapply Hk
  iexists f
  isplitr; · ipureintro; rfl
  iexact H

/-- A load of a block of a memref owned whole gives the block. -/
theorem wp_ldb (c : Dev nD) {off off' size : Fin s.rank → ℕ} {h : ∀ a, off a + size a ≤ s.size a} (h' : ∀ a, off' a + size a ≤ s.size a)
    (ho : off = off') {q : PosShare TreeShare} {X : s.Idx → Elt F e} {Y : (⟨s.rank, size⟩ : Shape).Idx → Elt F e}
    (hY : (fun j => X ((Rect.unit off' size h').emb j)) = Y) {hl : M.view.LoadsAt (Rect.unit off size h).toLoadRect}
    {k : ((⟨s.rank, size⟩ : Shape).Idx → Elt F e) → Prog (TpuEff nD τ sig (Elt F) Λ₀ .tc) α} {Q : α → sProp 𝕄} :
    ownsTc c M q X
      ⊢ iprop((ownsTc c M q X -∗ WP c (k Y) Q)
        -∗ WP c (.op (.load M (Rect.unit off size h).toLoadRect hl) k) Q) := by
  subst ho hY
  unfold ownsTc owns
  iintro ⟨%f, %hf, H⟩ Hk
  subst hf
  iapply (wp_load_rect 𝒱₀ (c : Thread nD τ) none Set.univ (m := M) (r := Rect.unit off size h) (View.set_slice_subset _ _)) $$ H
  iintro H
  iapply Hk
  iexists f
  isplitr; · ipureintro; rfl
  iexact H

/-- The rectangle that is the whole shape moves no index. -/
theorem emb_full (off : Fin s.rank → ℕ) (ho : off = fun _ => 0) (h : ∀ a, off a + s.size a ≤ s.size a) (j : s.Idx) :
    (Rect.unit off s.size h).emb j = j := by
  subst ho; exact Rect.emb_whole_apply _ j

/-- A load of the whole of a memref gives its contents. -/
theorem wp_ldw (c : Dev nD) {off : Fin s.rank → ℕ} {h : ∀ a, off a + s.size a ≤ s.size a} (ho : off = fun _ => 0)
    {q : PosShare TreeShare} {X : s.Idx → Elt F e} {hl : M.view.LoadsAt (Rect.unit off s.size h).toLoadRect}
    {k : (s.Idx → Elt F e) → Prog (TpuEff nD τ sig (Elt F) Λ₀ .tc) α} {Q : α → sProp 𝕄} :
    ownsTc c M q X
      ⊢ iprop((ownsTc c M q X -∗ WP c (k X) Q) -∗ WP c (.op (.load M (Rect.unit off s.size h).toLoadRect hl) k) Q) := by
  exact wp_ldb M c h rfl (funext fun j => by rw [emb_full off ho h j])

/-- A load of a slice owned at some contents and a store to it, the value loaded unused, leave it at the value stored. -/
theorem wp_ldst (c : Dev nD) {off off' size : Fin s.rank → ℕ} {h : ∀ a, off a + size a ≤ s.size a} {h' : ∀ a, off' a + size a ≤ s.size a}
    (ho : off = off') {w : (⟨s.rank, size⟩ : Shape).Idx → Elt F e} {hl : M.view.LoadsAt (Rect.unit off size h).toLoadRect}
    {hx : (M.access (Rect.unit off size h)).Stores Finset.univ} {hm}
    {k : PUnit → Prog (TpuEff nD τ sig (Elt F) Λ₀ .tc) α} {Q : α → sProp 𝕄} :
    any c (M.slice (Rect.unit off' size h') (fun _ => rfl))
      ⊢ iprop((ownsTc c (M.slice (Rect.unit off' size h') (fun _ => rfl)) fullShare w -∗ WP c (k ⟨⟩) Q)
        -∗ WP c (.op (.load M (Rect.unit off size h).toLoadRect hl) fun _ => .op (.store M (Rect.unit off size h) w Finset.univ hx hm) k) Q) := by
  subst ho
  unfold any ownsTc owns
  iintro ⟨%X, %f, %hf, H⟩ Hk
  iapply (wp_load_rect 𝒱₀ (c : Thread nD τ) none Set.univ (m := M) (r := Rect.unit off size h) (subset_refl _)) $$ H
  iintro H
  iapply (wp_store 𝒱₀ (c : Thread nD τ) none Set.univ (m := M) (r := Rect.unit off size h) (Mk := Finset.univ) (subset_of_eq (View.setOn_univ _))) $$ H
  iintro H
  iapply Hk
  iexists _
  isplitr
  · ipureintro; exact View.read_write_univ f w
  iexact H

/-- The same of a whole memref. -/
theorem wp_ldstw (c : Dev nD) {off : Fin s.rank → ℕ} {h : ∀ a, off a + s.size a ≤ s.size a} (ho : off = fun _ => 0)
    {w : s.Idx → Elt F e} {hl : M.view.LoadsAt (Rect.unit off s.size h).toLoadRect}
    {hx : (M.access (Rect.unit off s.size h)).Stores Finset.univ} {hm}
    {k : PUnit → Prog (TpuEff nD τ sig (Elt F) Λ₀ .tc) α} {Q : α → sProp 𝕄} :
    any c M
      ⊢ iprop((ownsTc c M fullShare w -∗ WP c (k ⟨⟩) Q)
        -∗ WP c (.op (.load M (Rect.unit off s.size h).toLoadRect hl) fun _ => .op (.store M (Rect.unit off s.size h) w Finset.univ hx hm) k) Q) := by
  unfold any ownsTc owns
  iintro ⟨%X, %f, %hf, H⟩ Hk
  iapply (wp_load_rect 𝒱₀ (c : Thread nD τ) none Set.univ (m := M) (r := Rect.unit off s.size h) (View.set_slice_subset _ _)) $$ H
  iintro H
  iapply (wp_store 𝒱₀ (c : Thread nD τ) none Set.univ (m := M) (r := Rect.unit off s.size h) (Mk := Finset.univ)
    ((subset_of_eq (View.setOn_univ _)).trans (View.set_slice_subset _ _))) $$ H
  iintro H
  iapply Hk
  iexists _
  isplitr
  · ipureintro
    have := View.read_write_univ (v := M.access (Rect.unit off s.size h)) f w
    funext j
    have hj := congrFun this j
    rw [← hj]
    show _ = M.view.read (Elt F) _ ((Rect.unit off s.size h).emb j)
    rw [emb_full off ho h j]
  iexact H

end Mem

/-! ## The protocol's steps

`St c i l`: device `c` has made its first `i` payments and closed the cells in `l`. -/

/-- The counters of the cells in `l`, closed at zero. -/
def Zer (c : Dev nD) : List Cell → sProp 𝕄
  | [] => iprop(emp)
  | k :: l => iprop(semVal (kcell (c, k)) 0 ∗ Zer c l)

/-- One closed cell and the others. -/
theorem Zer_cons (c : Dev nD) (k : Cell) (l : List Cell) : (Zer c (k :: l) : sProp 𝕄) = iprop(semVal (kcell (c, k)) 0 ∗ Zer c l) := rfl

/-- A device's state: what it owes after `i` payments, and the cells it has closed. -/
def St (c : Dev nD) (i : ℕ) (l : List Cell) : sProp 𝕄 := iprop((∃ W, owes (c : Thread nD τ) (ow c i) W) ∗ Zer c l)

section Steps
variable (V : Vals F) (K : Dev nD × Cell → ℕ) {α : Type} {l : List Cell}

/-- The signal with duty `s`: it goes to `src c s`, with `c`'s landing buffers for that device's messages. -/
theorem wp_sig (c n : Dev nD) (s : Fin 3) (i : ℕ) (hn : n = src c s) (hi : pays.drop i = .inl s :: pays.drop (i + 1))
    {k : PUnit → Prog (TpuEff nD τ sig (Elt F) Λ₀ .tc) α} {Q : α → sProp 𝕄} :
    iprop(ctx V K ∗ St c i l ∗ dutyTok ER (barCell (src c s)) 0 s ∗ any c (rsS s) ∗ any c (xS (src c s)) ∗ any c (rs2S s))
      ⊢ iprop((St c (i + 1) l -∗ WP c (k ⟨⟩) Q) -∗ WP c (.op (.semSignal (Dev.tc n) barS 1) k) Q) := by
  subst hn
  unfold ctx St
  iintro ⟨⟨#HR, #HL⟩, ⟨⟨%W, HO⟩, HZ⟩, Ht, H1, H2, H3⟩ Hk
  iapply (Rounds.wp_signal 𝒱₀ ER (sched V) (c : Thread nD τ) none (dst := (src c s : Thread nD τ)) (κ := K (src c s, none))
    (d := s) (by rw [duties_bar]; exact Finset.mem_univ _) rfl () (O₀ := ow c i) (ow c (i + 1)) (by unfold ow; rw [hi]; rfl)) $$ [HO Ht H1 H2 H3]
  · isplitr; · iapply (inv_at V K (src c s, none)); iexact HR
    isplitl [HO]; · iexact HO
    isplitl [Ht]; · iexact Ht
    isplitl [H1 H2 H3]
    · rw [payload_bar]; unfold barPay; rw [tgt_src]
      isplitl [H1]; · iexact H1
      isplitl [H2]; · iexact H2
      iexact H3
    iapply (reached_at V K (src c s, none)); iexact HR
  iintro HO
  iapply Hk
  isplitl [HO]; · iexists W; iexact HO
  iexact HZ

/-- The wait for the three signals: the landing buffers of the other devices for `c`'s messages. -/
theorem wp_bar (c : Dev nD) {k : PUnit → Prog (TpuEff nD τ sig (Elt F) Λ₀ .tc) α} {Q : α → sProp 𝕄} :
    iprop(ctx V K ∗ St c 3 l ∗ cred (tallyAt (barCell c) () 3) ∗ atPos ER (barCell c) 0 ∅ 0)
      ⊢ iprop(((St c 3 (none :: l) ∗ barPay c 0 ∗ barPay c 1 ∗ barPay c 2) -∗ WP c (k ⟨⟩) Q) -∗ WP c (.op (.semWait barS 3) k) Q) := by
  unfold ctx St
  iintro ⟨⟨#HR, #HL⟩, ⟨⟨%W, HO⟩, HZ⟩, Hc, Ha⟩ Hk
  iapply (Rounds.wp_wait_rest_token 𝒱₀ ER (sched V) (c : Thread nD τ) none (κ := K (c, none))
      (wpE_semWait_eq 𝒱₀ (c : Thread nD τ) none Set.univ) (Set.mem_univ _) () (O := ow c 3) (W := W) (R := 0) (m := 0) (T := ∅)
      (by rw [expect_bar])) $$ [Hc HO Ha]
  · isplitr; · iapply (inv_at V K (c, none)); iexact HR
    isplitl [Hc]; · iexact Hc
    isplitl [HO]; · iexact HO
    isplitr; · iapply (mayWait c (.reg barS) (pays.drop 3) (by decide)); iexact HL
    iexact Ha
  iintro ⟨HO, Ha, -, Hp⟩
  ihave Hp := (Entails.of_eq (rest_bar V c)) $$ Hp
  imod (Rounds.cell_close ER (sched V) (Set.mem_univ (K (c, none))) (fun h => h) (R := 0 + 1) (duties_later V (barCell c))) $$ [Ha] with Hz
  · isplitr; · iapply (inv_at V K (c, none)); iexact HR
    iexact Ha
  iapply Hk
  isplitl [HO HZ Hz]
  · isplitl [HO]; · iexists _; iexact HO
    rw [Zer_cons]
    isplitl [Hz]; · iexact Hz
    iexact HZ
  iexact Hp

/-- Every payment has a positive level. -/
theorem plev_pos (x : Pay) : 0 < plev x := by
  rcases x with s | ⟨p, s⟩
  · exact Nat.one_pos
  · exact Nat.lt_of_lt_of_le Nat.two_pos (Nat.le_add_right _ _)

/-- A message sent, from its ends as raw buffers. -/
theorem wp_msg {sp sp' : Space} {sh : Shape} {e : EltTy} (p : Fin 5) (s : Fin 3) (c n : Dev nD) (i : ℕ) (hn : n = tgt c s)
    (hi : pays.drop i = .inr (p, s) :: pays.drop (i + 1)) {sS sR : DmaSem sig} (hS : sS = sendS p s) (hR : sR = recvS p s)
    {A : Memref sig .tc sp sh e} {B : Memref sig .tc sp' sh e} (hN : B.view.dmaCredit = N) {q : PosShare TreeShare}
    {fs : Buf (Elt F) (A.view.loc (c : Thread nD τ))} {fd : Buf (Elt F) (B.view.loc (tgt c s : Thread nD τ))} {Fr : sProp 𝕄}
    {hsc : B.view.ref.isScScratch = false} {hA : A.view.WordExact} {hB : B.view.WordExact}
    {hT : DmaTarget.Typed sp (.dma sR) (.remote (Dev.tc n : Thread nD τ) B (.dma sS) hsc)}
    {k : PUnit → Prog (TpuEff nD τ sig (Elt F) Λ₀ .tc) α} {Q : α → sProp 𝕄}
    (h₁ : (A.view.loc (c : Thread nD τ) ↦[A.view.set]{q} fs) ⊢ sendPay V p s c)
    (h₂ : iprop((B.view.loc (tgt c s : Thread nD τ) ↦[B.view.set]{fullShare} (B.view.write (Elt F) fd (A.view.read (Elt F) fs) Finset.univ)) ∗ Fr)
      ⊢ recvPay V p s (tgt c s)) :
    iprop(ctx V K ∗ St c i l ∗ Snd p s c ∗ (A.view.loc (c : Thread nD τ) ↦[A.view.set]{q} fs)
        ∗ (B.view.loc (tgt c s : Thread nD τ) ↦[B.view.set]{fullShare} fd) ∗ Fr)
      ⊢ iprop(((St c (i + 1) l ∗ Snt p s c) -∗ WP c (k ⟨⟩) Q)
        -∗ WP c (.op (.enqueueDma A (.remote (Dev.tc n) B (.dma sS) hsc) (.dma sR) hA hB hT) k) Q) := by
  subst hn hS hR
  unfold ctx St Snd Snt
  iintro ⟨⟨#HR, #HL⟩, ⟨⟨%W, HO⟩, HZ⟩, ⟨Ht1, Ht2, Ha⟩, HA, HB, HF⟩ Hk
  iapply (Rounds.wp_send_pointsTo_with 𝒱₀ ER (sched V) (c : Thread nD τ) none (κ₁ := K (c, some (false, p, s))) (κ₂ := K (tgt c s, some (true, p, s)))
    (c' := (tgt c s : Thread nD τ)) (fs := fs) (fd := fd) (F := Fr) (q := q)
    (r₁ := 0) (r₂ := 0) (d₁ := 0) (d₂ := 0)
    (by rw [duties_send]; exact Finset.mem_singleton_self _) (by rw [duties_recv]; exact Finset.mem_singleton_self _)
    () () N (show B.view.amount (.dma (recvS p s)) = N from hN) rfl rfl (O₀ := ow c i) (ow c (i + 1)) (by unfold ow; rw [hi]; rfl) (W := W)
    (by rw [payload_send]; exact h₁) (by rw [payload_recv]; exact h₂)) $$ [HO Ht1 Ht2 HA HB HF]
  · isplitr; · iapply (inv_at V K (c, some (false, p, s))); iexact HR
    isplitr; · iapply (inv_at V K (tgt c s, some (true, p, s))); iexact HR
    isplitl [HA]; · iexact HA
    isplitl [HB HF]; · isplitl [HB] <;> iassumption
    isplitl [HO]; · iexact HO
    isplitl [Ht1]; · iexact Ht1
    isplitr; · iapply (reached_at V K (c, some (false, p, s))); iexact HR
    isplitl [Ht2]; · iexact Ht2
    iapply (reached_at V K (tgt c s, some (true, p, s))); iexact HR
  iintro ⟨Hc, HO⟩
  iapply Hk
  isplitl [HO HZ]
  · isplitl [HO]; · iexists W; iexact HO
    iexact HZ
  isplitl [Hc] <;> iassumption

/-- Copying a slice to a slice, both reshaped, copies the contents; -/
theorem read_move {κ κ' : Kind} {sp sp' : Space} {s₁ sh : Shape} {e : EltTy} (v : View sig κ sp s₁ e) (u : View sig κ' sp' s₁ e) (h : sh.numel = s₁.numel)
    (f : v.ty.Contents (Elt F)) (g : u.ty.Contents (Elt F)) :
    v.read (Elt F) ((v.reshape sh h).write (Elt F) f ((u.reshape sh h).read (Elt F) g) Finset.univ) = u.read (Elt F) g := by
  funext x
  obtain ⟨y, rfl⟩ := (Shape.reshapeEquiv h).surjective x
  rw [View.read_write_reshape]
  rfl

/-- copying a buffer to a reshaped slice puts the contents there in the slice's shape. -/
theorem read_move_up {κ κ' : Kind} {sp sp' : Space} {s₁ sh : Shape} {e : EltTy} (v : View sig κ sp s₁ e) (u : View sig κ' sp' sh e) (h : sh.numel = s₁.numel)
    (hc : sh.ShapeCasts s₁) (f : v.ty.Contents (Elt F)) (g : u.ty.Contents (Elt F)) :
    v.read (Elt F) ((v.reshape sh h).write (Elt F) f (u.read (Elt F) g) Finset.univ) = shapeCast s₁ (u.read (Elt F) g) hc := by
  funext x
  obtain ⟨y, rfl⟩ := (Shape.reshapeEquiv h).surjective x
  rw [View.read_write_reshape]
  unfold shapeCast
  rw [Shape.reshapeEquiv_reshapeEquiv, Shape.reshapeEquiv_self]

/-- A message from a slice to a slice, both with their unit axis dropped. -/
theorem wp_msg_slot {sp sp' : Space} {s₁ sh : Shape} {e : EltTy} (p : Fin 5) (s : Fin 3) (c n : Dev nD) (i : ℕ) (hn : n = tgt c s)
    (hi : pays.drop i = .inr (p, s) :: pays.drop (i + 1)) {sS sR : DmaSem sig} (hS : sS = sendS p s) (hR : sR = recvS p s)
    {A A' : Memref sig .tc sp s₁ e} {B B' : Memref sig .tc sp' s₁ e} (eA : A' = A) (eB : B' = B) {hq : s₁.Squeezes sh}
    (hN : (B.squeeze sh hq).view.dmaCredit = N) {q : PosShare TreeShare} {X : s₁.Idx → Elt F e} {Fr : sProp 𝕄}
    {hsc : (B'.squeeze sh hq).view.ref.isScScratch = false} {hA : (A'.squeeze sh hq).view.WordExact} {hB : (B'.squeeze sh hq).view.WordExact}
    {hT : DmaTarget.Typed sp (.dma sR) (.remote (Dev.tc n : Thread nD τ) (B'.squeeze sh hq) (.dma sS) hsc)}
    {k : PUnit → Prog (TpuEff nD τ sig (Elt F) Λ₀ .tc) α} {Q : α → sProp 𝕄}
    (h₁ : ownsTc c A q X ⊢ sendPay V p s c) (h₂ : iprop(ownsTc (tgt c s) B fullShare X ∗ Fr) ⊢ recvPay V p s (tgt c s)) :
    iprop(ctx V K ∗ St c i l ∗ Snd p s c ∗ ownsTc c A q X ∗ any (tgt c s) B ∗ Fr)
      ⊢ iprop(((St c (i + 1) l ∗ Snt p s c) -∗ WP c (k ⟨⟩) Q)
        -∗ WP c (.op (.enqueueDma (A'.squeeze sh hq) (.remote (Dev.tc n) (B'.squeeze sh hq) (.dma sS) hsc) (.dma sR) hA hB hT) k) Q) := by
  subst eA eB
  unfold any ownsTc owns
  iintro ⟨#HC, HS, Hs, ⟨%fs, %hfs, HA⟩, ⟨%Y, %fd, -, HB⟩, HF⟩ Hk
  subst hfs
  iapply (wp_msg V K (Q := Q) p s c n i hn hi hS hR (A := A'.squeeze sh hq) (B := B'.squeeze sh hq) hN (q := q) (fs := fs) (fd := fd) (Fr := Fr)
    (hsc := hsc) (hA := hA) (hB := hB) (hT := hT) (k := k)
    (by
      refine BI.Entails.trans ?_ h₁
      rw [show (A'.squeeze sh hq).view.set = A'.view.set from View.set_reshape _ _]
      exact owns_intro (c : Thread nD τ) A' q fs)
    (by
      refine (sep_mono_left ?_).trans h₂
      rw [show (B'.squeeze sh hq).view.set = B'.view.set from View.set_reshape _ _]
      refine (owns_intro (tgt c s : Thread nD τ) B' fullShare _).trans (Entails.of_eq ?_)
      exact congrArg _ (read_move B'.view A'.view _ fd fs))) $$ [HS Hs HA HB HF] [Hk]
  · isplitr; · iexact HC
    isplitl [HS]; · iexact HS
    isplitl [Hs]; · iexact Hs
    isplitl [HA]; · rw [show (A'.squeeze sh hq).view.set = A'.view.set from View.set_reshape _ _]; iexact HA
    isplitl [HB]; · rw [show (B'.squeeze sh hq).view.set = B'.view.set from View.set_reshape _ _]; iexact HB
    iexact HF
  iexact Hk

/-- A message from a memref to a slice with its unit axis dropped. -/
theorem wp_msg_up {sp sp' : Space} {s₁ sh : Shape} {e : EltTy} (p : Fin 5) (s : Fin 3) (c n : Dev nD) (i : ℕ) (hn : n = tgt c s)
    (hi : pays.drop i = .inr (p, s) :: pays.drop (i + 1)) {sS sR : DmaSem sig} (hS : sS = sendS p s) (hR : sR = recvS p s)
    {A A' : Memref sig .tc sp sh e} {B B' : Memref sig .tc sp' s₁ e} (eA : A' = A) (eB : B' = B) {hq : s₁.Squeezes sh} (hc : sh.ShapeCasts s₁)
    (hN : (B.squeeze sh hq).view.dmaCredit = N) {q : PosShare TreeShare} {X : sh.Idx → Elt F e} {Fr : sProp 𝕄}
    {hsc : (B'.squeeze sh hq).view.ref.isScScratch = false} {hA : A'.view.WordExact} {hB : (B'.squeeze sh hq).view.WordExact}
    {hT : DmaTarget.Typed sp (.dma sR) (.remote (Dev.tc n : Thread nD τ) (B'.squeeze sh hq) (.dma sS) hsc)}
    {k : PUnit → Prog (TpuEff nD τ sig (Elt F) Λ₀ .tc) α} {Q : α → sProp 𝕄}
    (h₁ : ownsTc c A q X ⊢ sendPay V p s c)
    (h₂ : iprop(ownsTc (tgt c s) B fullShare (shapeCast s₁ X hc) ∗ Fr) ⊢ recvPay V p s (tgt c s)) :
    iprop(ctx V K ∗ St c i l ∗ Snd p s c ∗ ownsTc c A q X ∗ any (tgt c s) B ∗ Fr)
      ⊢ iprop(((St c (i + 1) l ∗ Snt p s c) -∗ WP c (k ⟨⟩) Q)
        -∗ WP c (.op (.enqueueDma A' (.remote (Dev.tc n) (B'.squeeze sh hq) (.dma sS) hsc) (.dma sR) hA hB hT) k) Q) := by
  subst eA eB
  unfold any ownsTc owns
  iintro ⟨#HC, HS, Hs, ⟨%fs, %hfs, HA⟩, ⟨%Y, %fd, -, HB⟩, HF⟩ Hk
  subst hfs
  iapply (wp_msg V K (Q := Q) p s c n i hn hi hS hR (A := A') (B := B'.squeeze sh hq) hN (q := q) (fs := fs) (fd := fd) (Fr := Fr)
    (hsc := hsc) (hA := hA) (hB := hB) (hT := hT) (k := k)
    (BI.Entails.trans (owns_intro (c : Thread nD τ) A' q fs) h₁)
    (by
      refine (sep_mono_left ?_).trans h₂
      rw [show (B'.squeeze sh hq).view.set = B'.view.set from View.set_reshape _ _]
      refine (owns_intro (tgt c s : Thread nD τ) B' fullShare _).trans (Entails.of_eq ?_)
      exact congrArg _ (read_move_up B'.view A'.view _ hc fd fs))) $$ [HS Hs HA HB HF] [Hk]
  · isplitr; · iexact HC
    isplitl [HS]; · iexact HS
    isplitl [Hs]; · iexact Hs
    isplitl [HA]; · iexact HA
    isplitl [HB]; · rw [show (B'.squeeze sh hq).view.set = B'.view.set from View.set_reshape _ _]; iexact HB
    iexact HF
  iexact Hk

/-- The wait for a message of its own to have left: the source back, the cell closed. -/
theorem wp_sent {sp sp' : Space} {s₁ s₂ : Shape} {e₁ e₂ : EltTy} (p : Fin 5) (s : Fin 3) (c : Dev nD) (i : ℕ) {sS : DmaSem sig} (hS : sS = sendS p s)
    {A : Memref sig .tc sp s₁ e₁} {B : Memref sig .tc sp' s₂ e₂} (hN : B.view.dmaCredit = N) {hA : A.view.WordExact} {hB : B.view.WordExact}
    {k : PUnit → Prog (TpuEff nD τ sig (Elt F) Λ₀ .tc) α} {Q : α → sProp 𝕄} :
    iprop(ctx V K ∗ St c i l ∗ Snt p s c)
      ⊢ iprop(((St c i (some (false, p, s) :: l) ∗ sendPay V p s c) -∗ WP c (k ⟨⟩) Q) -∗ WP c (.op (.waitDma2 sS A B hA hB) k) Q) := by
  subst hS
  unfold ctx St Snt
  iintro ⟨⟨#HR, #HL⟩, ⟨⟨%W, HO⟩, HZ⟩, Hc, Ha⟩ Hk
  iapply (Rounds.wp_wait_rest_token 𝒱₀ ER (sched V) (c : Thread nD τ) none (κ := K (c, some (false, p, s)))
      (wpE_waitDma2_eq 𝒱₀ (c : Thread nD τ) none Set.univ) (Set.mem_univ _) () (O := ow c i) (W := W) (R := 0) (m := 0) (T := ∅)
      (by rw [expect_send, hN, Nat.zero_add])) $$ [Hc HO Ha]
  · isplitr; · iapply (inv_at V K (c, some (false, p, s))); iexact HR
    isplitl [Hc]; · rw [hN]; iexact Hc
    isplitl [HO]; · iexact HO
    isplitr; · iapply (mayWait c (.dma (sendS p s)) (pays.drop i) (fun x _ => by rw [lev_send]; exact plev_pos x)); iexact HL
    iexact Ha
  iintro ⟨HO, Ha, -, Hp⟩
  ihave Hp := (Entails.of_eq (rest_send V p s c)) $$ Hp
  imod (Rounds.cell_close ER (sched V) (Set.mem_univ (K (c, some (false, p, s)))) (fun h => h) (R := 0 + 1) (duties_later V (sendCell p s c))) $$ [Ha] with Hz
  · isplitr; · iapply (inv_at V K (c, some (false, p, s))); iexact HR
    iexact Ha
  iapply Hk
  isplitl [HO HZ Hz]
  · isplitl [HO]; · iexists _; iexact HO
    rw [Zer_cons]
    isplitl [Hz]; · iexact Hz
    iexact HZ
  iexact Hp

/-- The wait for the message in a slot of its own: what the message brings, the cell closed. -/
theorem wp_got {sp sp' : Space} {s₁ s₂ : Shape} {e₁ e₂ : EltTy} (p : Fin 5) (s : Fin 3) (c : Dev nD) (i : ℕ) {sR : DmaSem sig} (hR : sR = recvS p s)
    (hl : ∀ x ∈ pays.drop i, 2 + p.val < plev x)
    {A : Memref sig .tc sp s₁ e₁} {B : Memref sig .tc sp' s₂ e₂} (hN : B.view.dmaCredit = N) {hA : A.view.WordExact} {hB : B.view.WordExact}
    {k : PUnit → Prog (TpuEff nD τ sig (Elt F) Λ₀ .tc) α} {Q : α → sProp 𝕄} :
    iprop(ctx V K ∗ St c i l ∗ Rcv p s c)
      ⊢ iprop(((St c i (some (true, p, s) :: l) ∗ recvPay V p s c) -∗ WP c (k ⟨⟩) Q) -∗ WP c (.op (.waitDma2 sR A B hA hB) k) Q) := by
  subst hR
  unfold ctx St Rcv
  iintro ⟨⟨#HR, #HL⟩, ⟨⟨%W, HO⟩, HZ⟩, Hc, Ha⟩ Hk
  iapply (Rounds.wp_wait_rest_token 𝒱₀ ER (sched V) (c : Thread nD τ) none (κ := K (c, some (true, p, s)))
      (wpE_waitDma2_eq 𝒱₀ (c : Thread nD τ) none Set.univ) (Set.mem_univ _) () (O := ow c i) (W := W) (R := 0) (m := 0) (T := ∅)
      (by rw [expect_recv, hN, Nat.zero_add])) $$ [Hc HO Ha]
  · isplitr; · iapply (inv_at V K (c, some (true, p, s))); iexact HR
    isplitl [Hc]; · rw [hN]; iexact Hc
    isplitl [HO]; · iexact HO
    isplitr; · iapply (mayWait c (.dma (recvS p s)) (pays.drop i) (fun x hx => by rw [lev_recv]; exact hl x hx)); iexact HL
    iexact Ha
  iintro ⟨HO, Ha, -, Hp⟩
  ihave Hp := (Entails.of_eq (rest_recv V p s c)) $$ Hp
  imod (Rounds.cell_close ER (sched V) (Set.mem_univ (K (c, some (true, p, s)))) (fun h => h) (R := 0 + 1) (duties_later V (recvCell p s c))) $$ [Ha] with Hz
  · isplitr; · iapply (inv_at V K (c, some (true, p, s))); iexact HR
    iexact Ha
  iapply Hk
  isplitl [HO HZ Hz]
  · isplitl [HO]; · iexists _; iexact HO
    rw [Zer_cons]
    isplitl [Hz]; · iexact Hz
    iexact HZ
  iexact Hp

end Steps

end Cert.MeshProof

end

end
-- ==== Proof.Values.lean ====
/-
# The values the kernel computes, layer by layer, and the closed forms of its offsets, devices and semaphores

`Args` are the arguments of all devices. From them every device's hidden layers, the blocks of its products, its sums,
its gathered products and its result are written as the program's own pure expressions, for any float operations.
-/
module

public import proofs.«01_k».proof.Proof.Steps

@[expose] public section

noncomputable section

namespace Cert.MeshProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The program's chains in closed form -/

/-- Where the body finds the columns of a second weight for the device that slot 2 goes to. -/
theorem off1_1 : ∀ c : Dev nD, k0_off1 c 1#32 = ![0, 256 * (tgt c 2).val] := by decide +kernel
/-- Where the body finds the block of the product's buffer stored for the device that slot 2 goes to. -/
theorem off2_1 : ∀ c : Dev nD, k0_off2 c 1#32 = ![(tgt c 2).val, 0, 0] := by decide +kernel
/-- Where the body finds the block of the product's buffer sent to the device that slot 2 goes to. -/
theorem off3_1 : ∀ c : Dev nD, k0_off3 c 1#32 = ![(tgt c 2).val, 0, 0] := by decide +kernel
/-- Where the body finds the rows of the last product for the device that slot 2 goes to. -/
theorem off10_1 : ∀ c : Dev nD, k0_off10 c 1#32 = ![16 * (tgt c 2).val, 0] := by decide +kernel
/-- Where the body finds the row waited for, of the device that slot 2 comes from. -/
theorem off7_1 : ∀ c : Dev nD, k0_off7 c 1#32 = ![(src c 2).val, 0, 0] := by decide +kernel
/-- Where the body finds the row of the gathered sums loaded, of the device that slot 2 comes from. -/
theorem off8_1 : ∀ c : Dev nD, k0_off8 c 1#32 = ![(src c 2).val, 0, 0] := by decide +kernel
/-- Where the body finds the rows of a first weight for the device that slot 2 comes from. -/
theorem off9_1 : ∀ c : Dev nD, k0_off9 c 1#32 = ![256 * (src c 2).val, 0] := by decide +kernel
/-- Where the body finds the columns of a second weight for the device that slot 1 goes to. -/
theorem off1_2 : ∀ c : Dev nD, k0_off1 c 2#32 = ![0, 256 * (tgt c 1).val] := by decide +kernel
/-- Where the body finds the block of the product's buffer stored for the device that slot 1 goes to. -/
theorem off2_2 : ∀ c : Dev nD, k0_off2 c 2#32 = ![(tgt c 1).val, 0, 0] := by decide +kernel
/-- Where the body finds the block of the product's buffer sent to the device that slot 1 goes to. -/
theorem off3_2 : ∀ c : Dev nD, k0_off3 c 2#32 = ![(tgt c 1).val, 0, 0] := by decide +kernel
/-- Where the body finds the rows of the last product for the device that slot 1 goes to. -/
theorem off10_2 : ∀ c : Dev nD, k0_off10 c 2#32 = ![16 * (tgt c 1).val, 0] := by decide +kernel
/-- Where the body finds the row waited for, of the device that slot 1 comes from. -/
theorem off7_2 : ∀ c : Dev nD, k0_off7 c 2#32 = ![(src c 1).val, 0, 0] := by decide +kernel
/-- Where the body finds the row of the gathered sums loaded, of the device that slot 1 comes from. -/
theorem off8_2 : ∀ c : Dev nD, k0_off8 c 2#32 = ![(src c 1).val, 0, 0] := by decide +kernel
/-- Where the body finds the rows of a first weight for the device that slot 1 comes from. -/
theorem off9_2 : ∀ c : Dev nD, k0_off9 c 2#32 = ![256 * (src c 1).val, 0] := by decide +kernel
/-- Where the body finds the columns of a second weight for the device that slot 0 goes to. -/
theorem off1_3 : ∀ c : Dev nD, k0_off1 c 3#32 = ![0, 256 * (tgt c 0).val] := by decide +kernel
/-- Where the body finds the block of the product's buffer stored for the device that slot 0 goes to. -/
theorem off2_3 : ∀ c : Dev nD, k0_off2 c 3#32 = ![(tgt c 0).val, 0, 0] := by decide +kernel
/-- Where the body finds the block of the product's buffer sent to the device that slot 0 goes to. -/
theorem off3_3 : ∀ c : Dev nD, k0_off3 c 3#32 = ![(tgt c 0).val, 0, 0] := by decide +kernel
/-- Where the body finds the rows of the last product for the device that slot 0 goes to. -/
theorem off10_3 : ∀ c : Dev nD, k0_off10 c 3#32 = ![16 * (tgt c 0).val, 0] := by decide +kernel
/-- Where the body finds the row waited for, of the device that slot 0 comes from. -/
theorem off7_3 : ∀ c : Dev nD, k0_off7 c 3#32 = ![(src c 0).val, 0, 0] := by decide +kernel
/-- Where the body finds the row of the gathered sums loaded, of the device that slot 0 comes from. -/
theorem off8_3 : ∀ c : Dev nD, k0_off8 c 3#32 = ![(src c 0).val, 0, 0] := by decide +kernel
/-- Where the body finds the rows of a first weight for the device that slot 0 comes from. -/
theorem off9_3 : ∀ c : Dev nD, k0_off9 c 3#32 = ![256 * (src c 0).val, 0] := by decide +kernel
/-- The barrier's signal 1 goes to the device that slot 0 comes from. -/
theorem dev1 : ∀ c : Dev nD, (⟨k0_dev1 c, k0_dev1_lt c⟩ : Dev nD) = src c 0 := by decide +kernel
/-- The barrier's signal 2 goes to the device that slot 1 comes from. -/
theorem dev2 : ∀ c : Dev nD, (⟨k0_dev2 c, k0_dev2_lt c⟩ : Dev nD) = src c 1 := by decide +kernel
/-- The barrier's signal 3 goes to the device that slot 2 comes from. -/
theorem dev3 : ∀ c : Dev nD, (⟨k0_dev3 c, k0_dev3_lt c⟩ : Dev nD) = src c 2 := by decide +kernel
/-- Message 0 goes to the device of slot 1. -/
theorem dev4 : ∀ c : Dev nD, (⟨k0_dev4 c, k0_dev4_lt c⟩ : Dev nD) = tgt c 1 := by decide +kernel
/-- Message 1 goes to the device of slot 2. -/
theorem dev5 : ∀ c : Dev nD, (⟨k0_dev5 c, k0_dev5_lt c⟩ : Dev nD) = tgt c 2 := by decide +kernel
/-- Message 2 goes to the device of slot 0. -/
theorem dev6 : ∀ c : Dev nD, (⟨k0_dev6 c, k0_dev6_lt c⟩ : Dev nD) = tgt c 0 := by decide +kernel
/-- Message 3 goes to the device of slot 1. -/
theorem dev7 : ∀ c : Dev nD, (⟨k0_dev7 c, k0_dev7_lt c⟩ : Dev nD) = tgt c 1 := by decide +kernel
/-- Message 4 goes to the device of slot 2. -/
theorem dev8 : ∀ c : Dev nD, (⟨k0_dev8 c, k0_dev8_lt c⟩ : Dev nD) = tgt c 2 := by decide +kernel
/-- Message 5 goes to the device of slot 0. -/
theorem dev9 : ∀ c : Dev nD, (⟨k0_dev9 c, k0_dev9_lt c⟩ : Dev nD) = tgt c 0 := by decide +kernel
/-- Message 6 goes to the device of slot 1. -/
theorem dev10 : ∀ c : Dev nD, (⟨k0_dev10 c, k0_dev10_lt c⟩ : Dev nD) = tgt c 1 := by decide +kernel
/-- Message 7 goes to the device of slot 2. -/
theorem dev11 : ∀ c : Dev nD, (⟨k0_dev11 c, k0_dev11_lt c⟩ : Dev nD) = tgt c 2 := by decide +kernel
/-- Message 8 goes to the device of slot 0. -/
theorem dev12 : ∀ c : Dev nD, (⟨k0_dev12 c, k0_dev12_lt c⟩ : Dev nD) = tgt c 0 := by decide +kernel
/-- Message 9 goes to the device of slot 1. -/
theorem dev13 : ∀ c : Dev nD, (⟨k0_dev13 c, k0_dev13_lt c⟩ : Dev nD) = tgt c 1 := by decide +kernel
/-- Message 10 goes to the device of slot 2. -/
theorem dev14 : ∀ c : Dev nD, (⟨k0_dev14 c, k0_dev14_lt c⟩ : Dev nD) = tgt c 2 := by decide +kernel
/-- Message 11 goes to the device of slot 0. -/
theorem dev15 : ∀ c : Dev nD, (⟨k0_dev15 c, k0_dev15_lt c⟩ : Dev nD) = tgt c 0 := by decide +kernel
/-- Message 12 goes to the device of slot 1. -/
theorem dev16 : ∀ c : Dev nD, (⟨k0_dev16 c, k0_dev16_lt c⟩ : Dev nD) = tgt c 1 := by decide +kernel
/-- Message 13 goes to the device of slot 2. -/
theorem dev17 : ∀ c : Dev nD, (⟨k0_dev17 c, k0_dev17_lt c⟩ : Dev nD) = tgt c 2 := by decide +kernel
/-- Message 14 goes to the device of slot 0. -/
theorem dev18 : ∀ c : Dev nD, (⟨k0_dev18 c, k0_dev18_lt c⟩ : Dev nD) = tgt c 0 := by decide +kernel

/-- The send semaphore of exchange 0, slot 0; -/
theorem sendS_0_0 : ((cc0_scratch6.slice (Rect.unit (s := S5x3) ![0, 0] S1x1.size inb_S5x3_S1x1_0_0)).squeeze S_ squeezes_S1x1_S_).sem = sendS 0 0 := by decide +kernel
/-- its receive semaphore. -/
theorem recvS_0_0 : ((cc0_scratch7.slice (Rect.unit (s := S5x3) ![0, 0] S1x1.size inb_S5x3_S1x1_0_0)).squeeze S_ squeezes_S1x1_S_).sem = recvS 0 0 := by decide +kernel
/-- The send semaphore of exchange 0, slot 1; -/
theorem sendS_0_1 : ((cc0_scratch6.slice (Rect.unit (s := S5x3) ![0, 1] S1x1.size inb_S5x3_S1x1_0_1)).squeeze S_ squeezes_S1x1_S_).sem = sendS 0 1 := by decide +kernel
/-- its receive semaphore. -/
theorem recvS_0_1 : ((cc0_scratch7.slice (Rect.unit (s := S5x3) ![0, 1] S1x1.size inb_S5x3_S1x1_0_1)).squeeze S_ squeezes_S1x1_S_).sem = recvS 0 1 := by decide +kernel
/-- The send semaphore of exchange 0, slot 2; -/
theorem sendS_0_2 : ((cc0_scratch6.slice (Rect.unit (s := S5x3) ![0, 2] S1x1.size inb_S5x3_S1x1_0_2)).squeeze S_ squeezes_S1x1_S_).sem = sendS 0 2 := by decide +kernel
/-- its receive semaphore. -/
theorem recvS_0_2 : ((cc0_scratch7.slice (Rect.unit (s := S5x3) ![0, 2] S1x1.size inb_S5x3_S1x1_0_2)).squeeze S_ squeezes_S1x1_S_).sem = recvS 0 2 := by decide +kernel
/-- The send semaphore of exchange 1, slot 0; -/
theorem sendS_1_0 : ((cc0_scratch6.slice (Rect.unit (s := S5x3) ![1, 0] S1x1.size inb_S5x3_S1x1_1_0)).squeeze S_ squeezes_S1x1_S_).sem = sendS 1 0 := by decide +kernel
/-- its receive semaphore. -/
theorem recvS_1_0 : ((cc0_scratch7.slice (Rect.unit (s := S5x3) ![1, 0] S1x1.size inb_S5x3_S1x1_1_0)).squeeze S_ squeezes_S1x1_S_).sem = recvS 1 0 := by decide +kernel
/-- The send semaphore of exchange 1, slot 1; -/
theorem sendS_1_1 : ((cc0_scratch6.slice (Rect.unit (s := S5x3) ![1, 1] S1x1.size inb_S5x3_S1x1_1_1)).squeeze S_ squeezes_S1x1_S_).sem = sendS 1 1 := by decide +kernel
/-- its receive semaphore. -/
theorem recvS_1_1 : ((cc0_scratch7.slice (Rect.unit (s := S5x3) ![1, 1] S1x1.size inb_S5x3_S1x1_1_1)).squeeze S_ squeezes_S1x1_S_).sem = recvS 1 1 := by decide +kernel
/-- The send semaphore of exchange 1, slot 2; -/
theorem sendS_1_2 : ((cc0_scratch6.slice (Rect.unit (s := S5x3) ![1, 2] S1x1.size inb_S5x3_S1x1_1_2)).squeeze S_ squeezes_S1x1_S_).sem = sendS 1 2 := by decide +kernel
/-- its receive semaphore. -/
theorem recvS_1_2 : ((cc0_scratch7.slice (Rect.unit (s := S5x3) ![1, 2] S1x1.size inb_S5x3_S1x1_1_2)).squeeze S_ squeezes_S1x1_S_).sem = recvS 1 2 := by decide +kernel
/-- The send semaphore of exchange 2, slot 0; -/
theorem sendS_2_0 : ((cc0_scratch6.slice (Rect.unit (s := S5x3) ![2, 0] S1x1.size inb_S5x3_S1x1_2_0)).squeeze S_ squeezes_S1x1_S_).sem = sendS 2 0 := by decide +kernel
/-- its receive semaphore. -/
theorem recvS_2_0 : ((cc0_scratch7.slice (Rect.unit (s := S5x3) ![2, 0] S1x1.size inb_S5x3_S1x1_2_0)).squeeze S_ squeezes_S1x1_S_).sem = recvS 2 0 := by decide +kernel
/-- The send semaphore of exchange 2, slot 1; -/
theorem sendS_2_1 : ((cc0_scratch6.slice (Rect.unit (s := S5x3) ![2, 1] S1x1.size inb_S5x3_S1x1_2_1)).squeeze S_ squeezes_S1x1_S_).sem = sendS 2 1 := by decide +kernel
/-- its receive semaphore. -/
theorem recvS_2_1 : ((cc0_scratch7.slice (Rect.unit (s := S5x3) ![2, 1] S1x1.size inb_S5x3_S1x1_2_1)).squeeze S_ squeezes_S1x1_S_).sem = recvS 2 1 := by decide +kernel
/-- The send semaphore of exchange 2, slot 2; -/
theorem sendS_2_2 : ((cc0_scratch6.slice (Rect.unit (s := S5x3) ![2, 2] S1x1.size inb_S5x3_S1x1_2_2)).squeeze S_ squeezes_S1x1_S_).sem = sendS 2 2 := by decide +kernel
/-- its receive semaphore. -/
theorem recvS_2_2 : ((cc0_scratch7.slice (Rect.unit (s := S5x3) ![2, 2] S1x1.size inb_S5x3_S1x1_2_2)).squeeze S_ squeezes_S1x1_S_).sem = recvS 2 2 := by decide +kernel
/-- The send semaphore of exchange 3, slot 0; -/
theorem sendS_3_0 : ((cc0_scratch6.slice (Rect.unit (s := S5x3) ![3, 0] S1x1.size inb_S5x3_S1x1_3_0)).squeeze S_ squeezes_S1x1_S_).sem = sendS 3 0 := by decide +kernel
/-- its receive semaphore. -/
theorem recvS_3_0 : ((cc0_scratch7.slice (Rect.unit (s := S5x3) ![3, 0] S1x1.size inb_S5x3_S1x1_3_0)).squeeze S_ squeezes_S1x1_S_).sem = recvS 3 0 := by decide +kernel
/-- The send semaphore of exchange 3, slot 1; -/
theorem sendS_3_1 : ((cc0_scratch6.slice (Rect.unit (s := S5x3) ![3, 1] S1x1.size inb_S5x3_S1x1_3_1)).squeeze S_ squeezes_S1x1_S_).sem = sendS 3 1 := by decide +kernel
/-- its receive semaphore. -/
theorem recvS_3_1 : ((cc0_scratch7.slice (Rect.unit (s := S5x3) ![3, 1] S1x1.size inb_S5x3_S1x1_3_1)).squeeze S_ squeezes_S1x1_S_).sem = recvS 3 1 := by decide +kernel
/-- The send semaphore of exchange 3, slot 2; -/
theorem sendS_3_2 : ((cc0_scratch6.slice (Rect.unit (s := S5x3) ![3, 2] S1x1.size inb_S5x3_S1x1_3_2)).squeeze S_ squeezes_S1x1_S_).sem = sendS 3 2 := by decide +kernel
/-- its receive semaphore. -/
theorem recvS_3_2 : ((cc0_scratch7.slice (Rect.unit (s := S5x3) ![3, 2] S1x1.size inb_S5x3_S1x1_3_2)).squeeze S_ squeezes_S1x1_S_).sem = recvS 3 2 := by decide +kernel
/-- The send semaphore of exchange 4, slot 0; -/
theorem sendS_4_0 : ((cc0_scratch6.slice (Rect.unit (s := S5x3) ![4, 0] S1x1.size inb_S5x3_S1x1_4_0)).squeeze S_ squeezes_S1x1_S_).sem = sendS 4 0 := by decide +kernel
/-- its receive semaphore. -/
theorem recvS_4_0 : ((cc0_scratch7.slice (Rect.unit (s := S5x3) ![4, 0] S1x1.size inb_S5x3_S1x1_4_0)).squeeze S_ squeezes_S1x1_S_).sem = recvS 4 0 := by decide +kernel
/-- The send semaphore of exchange 4, slot 1; -/
theorem sendS_4_1 : ((cc0_scratch6.slice (Rect.unit (s := S5x3) ![4, 1] S1x1.size inb_S5x3_S1x1_4_1)).squeeze S_ squeezes_S1x1_S_).sem = sendS 4 1 := by decide +kernel
/-- its receive semaphore. -/
theorem recvS_4_1 : ((cc0_scratch7.slice (Rect.unit (s := S5x3) ![4, 1] S1x1.size inb_S5x3_S1x1_4_1)).squeeze S_ squeezes_S1x1_S_).sem = recvS 4 1 := by decide +kernel
/-- The send semaphore of exchange 4, slot 2; -/
theorem sendS_4_2 : ((cc0_scratch6.slice (Rect.unit (s := S5x3) ![4, 2] S1x1.size inb_S5x3_S1x1_4_2)).squeeze S_ squeezes_S1x1_S_).sem = sendS 4 2 := by decide +kernel
/-- its receive semaphore. -/
theorem recvS_4_2 : ((cc0_scratch7.slice (Rect.unit (s := S5x3) ![4, 2] S1x1.size inb_S5x3_S1x1_4_2)).squeeze S_ squeezes_S1x1_S_).sem = recvS 4 2 := by decide +kernel

/-- A part of the body at the launch's buffers. -/
abbrev onBufs {β : Type _} (part : ∀ (arg0 : Memref sig .tc .vmem S64x1024 .f32) (harg0 : arg0.IsWhole) (arg1 : Memref sig .tc .vmem S1024x2048 .f32) (harg1 : arg1.IsWhole) (arg2 : Memref sig .tc .vmem S2048x1024 .f32) (harg2 : arg2.IsWhole) (arg3 : Memref sig .tc .vmem S1024x2048 .f32) (harg3 : arg3.IsWhole) (arg4 : Memref sig .tc .vmem S2048x1024 .f32) (harg4 : arg4.IsWhole) (arg5 : Memref sig .tc .vmem S1024x2048 .f32) (harg5 : arg5.IsWhole) (arg6 : Memref sig .tc .vmem S2048x1024 .f32) (harg6 : arg6.IsWhole) (arg7 : Memref sig .tc .vmem S16x1024 .f32) (harg7 : arg7.IsWhole) (arg8 : Memref sig .tc .vmem S4x64x256 .f32) (harg8 : arg8.IsWhole) (arg9 : Memref sig .tc .vmem S4x64x256 .f32) (harg9 : arg9.IsWhole) (arg10 : Memref sig .tc .vmem S64x256 .f32) (harg10 : arg10.IsWhole) (arg11 : Memref sig .tc .vmem S3x64x256 .f32) (harg11 : arg11.IsWhole) (arg12 : Memref sig .tc .vmem S64x1024 .f32) (harg12 : arg12.IsWhole) (arg13 : Memref sig .tc .vmem S3x16x1024 .f32) (harg13 : arg13.IsWhole) (arg14 : DmaSems sig S5x3) (arg15 : DmaSems sig S5x3), β) : β :=
  part (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7

/-! ## The values -/

/-- The arguments of every device: the rows `x`, the blocks of the three first and of the three second weights. -/
structure Args (F : FTy → Type) where
  x : Dev nD → Vec F S64x1024 .f32
  wi : Fin 3 → Dev nD → Vec F S1024x2048 .f32
  wo : Fin 3 → Dev nD → Vec F S2048x1024 .f32

/-- The columns for a device lie in a second weight; -/
theorem inb_col (e : Dev nD) : ∀ a, (![0, 256 * e.val] : Fin 2 → ℕ) a + S2048x256.size a ≤ S2048x1024.size a := by revert e; decide
/-- the rows for a device lie in a first weight. -/
theorem inb_row (e : Dev nD) : ∀ a, (![256 * e.val, 0] : Fin 2 → ℕ) a + S256x2048.size a ≤ S1024x2048.size a := by revert e; decide

/-- The 256 columns of a second weight for device `e`; the 256 rows of a first weight for device `e`. -/
def colB (e : Dev nD) (W : Vec F S2048x1024 .f32) : Vec F S2048x256 .f32 :=
  fun j => W ((Rect.unit (s := S2048x1024) ![0, 256 * e.val] S2048x256.size (inb_col e)).emb j)
/-- The 256 rows of a first weight for device `e`. -/
def rowB (e : Dev nD) (W : Vec F S1024x2048 .f32) : Vec F S256x2048 .f32 :=
  fun j => W ((Rect.unit (s := S1024x2048) ![256 * e.val, 0] S256x2048.size (inb_row e)).emb j)

section Values
variable (A : Args F)

/-- The first hidden layer of `c`; its product's block for `e`, as a block and as it lies in its buffer; the sum of `c`. -/
def hid0 (c : Dev nD) : FVec F S64x2048 .bf16 := k0_pay2 (A.x c) (A.wi 0 c)
/-- Its product's block for `e`, -/
def blk0 (c e : Dev nD) : FVec F S64x256 .f32 := k0_pay8 (hid0 A c) (colB e (A.wo 0 c))
/-- as it lies in its buffer; -/
def part0 (c e : Dev nD) : Vec F S1x64x256 .f32 := up (blk0 A c e)
/-- the sum of `c`, -/
def sum0 (c : Dev nD) : FVec F S64x256 .f32 := k0_pay9 (blk0 A c c) (part0 A (src c 0) c) (part0 A (src c 1) c) (part0 A (src c 2) c)
/-- as it is stored. -/
def red0 (c : Dev nD) : Vec F S64x256 .f32 := k0_pay10 (blk0 A c c) (part0 A (src c 0) c) (part0 A (src c 1) c) (part0 A (src c 2) c)

/-- The second hidden layer of `c`, gathered block by block: after its own block, after one and after two of the others, whole. -/
def acc1_0 (c : Dev nD) : FVec F S64x2048 .f32 := k0_pay11 (sum0 A c) (rowB c (A.wi 1 c))
/-- After one block of the others, -/
def acc1_1 (c : Dev nD) : FVec F S64x2048 .f32 := k0_pay12 (acc1_0 A c) (up (red0 A (src c 2))) (rowB (src c 2) (A.wi 1 c))
/-- after two, -/
def acc1_2 (c : Dev nD) : FVec F S64x2048 .f32 := k0_pay13 (acc1_1 A c) (up (red0 A (src c 0))) (rowB (src c 0) (A.wi 1 c))
/-- and whole, cut off at zero. -/
def hid1 (c : Dev nD) : FVec F S64x2048 .bf16 := k0_pay14 (acc1_2 A c) (up (red0 A (src c 1))) (rowB (src c 1) (A.wi 1 c))
/-- The second product's block for `e`, -/
def blk1 (c e : Dev nD) : FVec F S64x256 .f32 := k0_pay18 (hid1 A c) (colB e (A.wo 1 c))
/-- as it lies in its buffer; -/
def part1 (c e : Dev nD) : Vec F S1x64x256 .f32 := up (blk1 A c e)
/-- the second sum of `c`, -/
def sum1 (c : Dev nD) : FVec F S64x256 .f32 := k0_pay19 (blk1 A c c) (part1 A (src c 0) c) (part1 A (src c 1) c) (part1 A (src c 2) c)
/-- as it is stored. -/
def red1 (c : Dev nD) : Vec F S64x256 .f32 := k0_pay20 (sum1 A c)

/-- The third hidden layer of `c`, gathered likewise. -/
def acc2_0 (c : Dev nD) : FVec F S64x2048 .f32 := k0_pay21 (sum1 A c) (rowB c (A.wi 2 c))
/-- After one block of the others, -/
def acc2_1 (c : Dev nD) : FVec F S64x2048 .f32 := k0_pay22 (acc2_0 A c) (up (red1 A (src c 2))) (rowB (src c 2) (A.wi 2 c))
/-- after two, -/
def acc2_2 (c : Dev nD) : FVec F S64x2048 .f32 := k0_pay23 (acc2_1 A c) (up (red1 A (src c 0))) (rowB (src c 0) (A.wi 2 c))
/-- and whole. -/
def hid2 (c : Dev nD) : FVec F S64x2048 .f32 := k0_pay24 (acc2_2 A c) (up (red1 A (src c 1))) (rowB (src c 1) (A.wi 2 c))
/-- The last product of `c`, its rows for `e`, and the result of `c`. -/
def prod (c : Dev nD) : Vec F S64x1024 .f32 := k0_pay25 (hid2 A c) (A.wo 2 c)
/-- The last product's rows for `e`. -/
def last (c e : Dev nD) : Vec F S16x1024 .f32 :=
  fun j => prod A c ((Rect.unit (s := S64x1024) ![16 * e.val, 0] S16x1024.size (inb_p2 e)).emb j)
/-- The result of `c`. -/
def out (c : Dev nD) : Vec F S16x1024 .f32 :=
  k0_pay1 (last A c c) (up2 (last A (src c 0) c)) (up2 (last A (src c 1) c)) (up2 (last A (src c 2) c))

/-- What the messages carry. -/
def vals : Vals F where
  part l := match l with | 0 => part0 A | 1 => part1 A
  red l := match l with | 0 => red0 A | 1 => red1 A
  last := last A

/-- The first block the body sends of the first product, -/
theorem pay3_eq (c e : Dev nD) : k0_pay3 (hid0 A c) (colB e (A.wo 0 c)) = part0 A c e := rfl
/-- the second, -/
theorem pay5_eq (c e : Dev nD) : k0_pay5 (hid0 A c) (k0_pay4 (colB e (A.wo 0 c))) (constant S64x256 .f32 0x00000000#32) = part0 A c e := rfl
/-- and the third. -/
theorem pay7_eq (c e : Dev nD) : k0_pay7 (k0_pay6 (hid0 A c) (colB e (A.wo 0 c))) = part0 A c e := rfl
/-- The first block the body sends of the second product, -/
theorem pay15_eq (c e : Dev nD) : k0_pay15 (hid1 A c) (colB e (A.wo 1 c)) = part1 A c e := rfl
/-- the second, -/
theorem pay16_eq (c e : Dev nD) : k0_pay16 (hid1 A c) (colB e (A.wo 1 c)) = part1 A c e := rfl
/-- and the third. -/
theorem pay17_eq (c e : Dev nD) : k0_pay17 (hid1 A c) (colB e (A.wo 1 c)) = part1 A c e := rfl

end Values

end Cert.MeshProof

end

end
-- ==== Proof.Phases.lean ====
/-
# The five kinds of message and the two kinds of wait, at the kernel's values
-/
module

public import proofs.«01_k».proof.Proof.Values

@[expose] public section

noncomputable section

namespace Cert.MeshProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A slice at an offset that is another. -/
theorem slice_at {sp : Space} {s : Shape} {e : EltTy} (M : Memref sig .tc sp s e) {off off' size : Fin s.rank → ℕ}
    {h : ∀ a, off a + size a ≤ s.size a} (h' : ∀ a, off' a + size a ≤ s.size a) (ho : off = off') :
    M.slice (Rect.unit off size h) (fun _ => rfl) = M.slice (Rect.unit off' size h') (fun _ => rfl) := by subst ho; rfl

section Phases
variable (A : Args F) (K : Dev nD × Cell → ℕ) {α : Type} {l : List Cell}

/-- A first product's block sent. -/
theorem snd0 (s : Fin 3) (c n : Dev nD) (i : ℕ) (hn : n = tgt c s) (hi : pays.drop i = .inr (0, s) :: pays.drop (i + 1))
    {sS sR : DmaSem sig} (hS : sS = sendS 0 s) (hR : sR = recvS 0 s) {A' : Memref sig .tc .vmem S1x64x256 .f32} {B' : Memref sig .tc .vmem S1x64x256 .f32}
    (eA : A' = partS (tgt c s)) (eB : B' = rsS s) {hq : S1x64x256.Squeezes S64x256}
    {hsc : (B'.squeeze S64x256 hq).view.ref.isScScratch = false} {hA : (A'.squeeze S64x256 hq).view.WordExact} {hB : (B'.squeeze S64x256 hq).view.WordExact}
    {hT : DmaTarget.Typed .vmem (.dma sR) (.remote (Dev.tc n : Thread nD τ) (B'.squeeze S64x256 hq) (.dma sS) hsc)}
    {k : PUnit → Prog (TpuEff nD τ sig (Elt F) Λ₀ .tc) α} {Q : α → sProp 𝕄} :
    iprop(ctx (vals A) K ∗ St c i l ∗ Snd 0 s c ∗ ownsTc c (partS (tgt c s)) fullShare (part0 A c (tgt c s)) ∗ any (tgt c s) (rsS s))
      ⊢ iprop(((St c (i + 1) l ∗ Snt 0 s c) -∗ WP c (k ⟨⟩) Q)
        -∗ WP c (.op (.enqueueDma (A'.squeeze S64x256 hq) (.remote (Dev.tc n) (B'.squeeze S64x256 hq) (.dma sS) hsc) (.dma sR) hA hB hT) k) Q) := by
  have key := wp_msg_slot (F := F) (vals A) K (l := l) (Q := Q) 0 s c n i hn hi hS hR eA eB (hq := hq) rfl (q := fullShare) (X := part0 A c (tgt c s)) (Fr := iprop(emp))
    (hsc := hsc) (hA := hA) (hB := hB) (hT := hT) (k := k) (BI.Entails.refl _) (by
      show _ ⊢ recvPay (vals A) 0 s (tgt c s)
      unfold recvPay; rw [src_tgt]; iintro ⟨H, -⟩; iexact H)
  iintro ⟨#HC, H1, H2, H3, H4⟩ Hk
  iapply key $$ [H1 H2 H3 H4] [Hk]
  · isplitr; · iexact HC
    isplitl [H1]; · iexact H1
    isplitl [H2]; · iexact H2
    isplitl [H3]; · iexact H3
    isplitl [H4]; · iexact H4
    iempintro
  iexact Hk

/-- A first sum sent, with the landing buffer for the block coming back. -/
theorem snd1 (s r : Fin 3) (hr : r = Fin.rev s) (c n : Dev nD) (i : ℕ) (hn : n = tgt c s) (hi : pays.drop i = .inr (1, s) :: pays.drop (i + 1))
    {sS sR : DmaSem sig} (hS : sS = sendS 1 s) (hR : sR = recvS 1 s) {A' : Memref sig .tc .vmem S64x256 .f32} {B' : Memref sig .tc .vmem S1x64x256 .f32}
    (eA : A' = redM) (eB : B' = xS c) {hq : S1x64x256.Squeezes S64x256}
    {hsc : (B'.squeeze S64x256 hq).view.ref.isScScratch = false} {hA : (A').view.WordExact} {hB : (B'.squeeze S64x256 hq).view.WordExact}
    {hT : DmaTarget.Typed .vmem (.dma sR) (.remote (Dev.tc n : Thread nD τ) (B'.squeeze S64x256 hq) (.dma sS) hsc)}
    {k : PUnit → Prog (TpuEff nD τ sig (Elt F) Λ₀ .tc) α} {Q : α → sProp 𝕄} :
    iprop(ctx (vals A) K ∗ St c i l ∗ Snd 1 s c ∗ ownsTc c (redM) (third s) (red0 A c) ∗ any (tgt c s) (xS c) ∗ any c (rsS r))
      ⊢ iprop(((St c (i + 1) l ∗ Snt 1 s c) -∗ WP c (k ⟨⟩) Q)
        -∗ WP c (.op (.enqueueDma (A') (.remote (Dev.tc n) (B'.squeeze S64x256 hq) (.dma sS) hsc) (.dma sR) hA hB hT) k) Q) := by
  subst hr
  have key := wp_msg_up (F := F) (vals A) K (l := l) (Q := Q) 1 s c n i hn hi hS hR eA eB (hq := hq) shapeCasts_S64x256_S1x64x256 rfl (q := third s) (X := red0 A c) (Fr := any c (rsS (Fin.rev s)))
    (hsc := hsc) (hA := hA) (hB := hB) (hT := hT) (k := k) (BI.Entails.refl _) (by
      show _ ⊢ recvPay (vals A) 1 s (tgt c s)
      unfold recvPay; rw [src_tgt]; exact BI.Entails.refl _)
  exact key

/-- A second product's block sent, with the row for the sum coming back. -/
theorem snd2 (s r : Fin 3) (hr : r = Fin.rev s) (c n : Dev nD) (i : ℕ) (hn : n = tgt c s) (hi : pays.drop i = .inr (2, s) :: pays.drop (i + 1))
    {sS sR : DmaSem sig} (hS : sS = sendS 2 s) (hR : sR = recvS 2 s) {A' : Memref sig .tc .vmem S1x64x256 .f32} {B' : Memref sig .tc .vmem S1x64x256 .f32}
    (eA : A' = partS (tgt c s)) (eB : B' = rsS s) {hq : S1x64x256.Squeezes S64x256}
    {hsc : (B'.squeeze S64x256 hq).view.ref.isScScratch = false} {hA : (A'.squeeze S64x256 hq).view.WordExact} {hB : (B'.squeeze S64x256 hq).view.WordExact}
    {hT : DmaTarget.Typed .vmem (.dma sR) (.remote (Dev.tc n : Thread nD τ) (B'.squeeze S64x256 hq) (.dma sS) hsc)}
    {k : PUnit → Prog (TpuEff nD τ sig (Elt F) Λ₀ .tc) α} {Q : α → sProp 𝕄} :
    iprop(ctx (vals A) K ∗ St c i l ∗ Snd 2 s c ∗ ownsTc c (partS (tgt c s)) fullShare (part1 A c (tgt c s)) ∗ any (tgt c s) (rsS s) ∗ any c (xS (src c r)))
      ⊢ iprop(((St c (i + 1) l ∗ Snt 2 s c) -∗ WP c (k ⟨⟩) Q)
        -∗ WP c (.op (.enqueueDma (A'.squeeze S64x256 hq) (.remote (Dev.tc n) (B'.squeeze S64x256 hq) (.dma sS) hsc) (.dma sR) hA hB hT) k) Q) := by
  subst hr
  rw [src_rev]
  have key := wp_msg_slot (F := F) (vals A) K (l := l) (Q := Q) 2 s c n i hn hi hS hR eA eB (hq := hq) rfl (q := fullShare) (X := part1 A c (tgt c s)) (Fr := any c (xS (tgt c s)))
    (hsc := hsc) (hA := hA) (hB := hB) (hT := hT) (k := k) (BI.Entails.refl _) (by
      show _ ⊢ recvPay (vals A) 2 s (tgt c s)
      unfold recvPay; rw [src_tgt]; exact BI.Entails.refl _)
  exact key

/-- A second sum sent. -/
theorem snd3 (s : Fin 3) (c n : Dev nD) (i : ℕ) (hn : n = tgt c s) (hi : pays.drop i = .inr (3, s) :: pays.drop (i + 1))
    {sS sR : DmaSem sig} (hS : sS = sendS 3 s) (hR : sR = recvS 3 s) {A' : Memref sig .tc .vmem S64x256 .f32} {B' : Memref sig .tc .vmem S1x64x256 .f32}
    (eA : A' = redM) (eB : B' = xS c) {hq : S1x64x256.Squeezes S64x256}
    {hsc : (B'.squeeze S64x256 hq).view.ref.isScScratch = false} {hA : (A').view.WordExact} {hB : (B'.squeeze S64x256 hq).view.WordExact}
    {hT : DmaTarget.Typed .vmem (.dma sR) (.remote (Dev.tc n : Thread nD τ) (B'.squeeze S64x256 hq) (.dma sS) hsc)}
    {k : PUnit → Prog (TpuEff nD τ sig (Elt F) Λ₀ .tc) α} {Q : α → sProp 𝕄} :
    iprop(ctx (vals A) K ∗ St c i l ∗ Snd 3 s c ∗ ownsTc c (redM) (third s) (red1 A c) ∗ any (tgt c s) (xS c))
      ⊢ iprop(((St c (i + 1) l ∗ Snt 3 s c) -∗ WP c (k ⟨⟩) Q)
        -∗ WP c (.op (.enqueueDma (A') (.remote (Dev.tc n) (B'.squeeze S64x256 hq) (.dma sS) hsc) (.dma sR) hA hB hT) k) Q) := by
  have key := wp_msg_up (F := F) (vals A) K (l := l) (Q := Q) 3 s c n i hn hi hS hR eA eB (hq := hq) shapeCasts_S64x256_S1x64x256 rfl (q := third s) (X := red1 A c) (Fr := iprop(emp))
    (hsc := hsc) (hA := hA) (hB := hB) (hT := hT) (k := k) (BI.Entails.refl _) (by
      show _ ⊢ recvPay (vals A) 3 s (tgt c s)
      unfold recvPay; rw [src_tgt]; iintro ⟨H, -⟩; iexact H)
  iintro ⟨#HC, H1, H2, H3, H4⟩ Hk
  iapply key $$ [H1 H2 H3 H4] [Hk]
  · isplitr; · iexact HC
    isplitl [H1]; · iexact H1
    isplitl [H2]; · iexact H2
    isplitl [H3]; · iexact H3
    isplitl [H4]; · iexact H4
    iempintro
  iexact Hk

/-- The last product's rows sent. -/
theorem snd4 (s : Fin 3) (c n : Dev nD) (i : ℕ) (hn : n = tgt c s) (hi : pays.drop i = .inr (4, s) :: pays.drop (i + 1))
    {sS sR : DmaSem sig} (hS : sS = sendS 4 s) (hR : sR = recvS 4 s) {A' : Memref sig .tc .vmem S16x1024 .f32} {B' : Memref sig .tc .vmem S1x16x1024 .f32}
    (eA : A' = p2S (tgt c s)) (eB : B' = rs2S s) {hq : S1x16x1024.Squeezes S16x1024}
    {hsc : (B'.squeeze S16x1024 hq).view.ref.isScScratch = false} {hA : (A').view.WordExact} {hB : (B'.squeeze S16x1024 hq).view.WordExact}
    {hT : DmaTarget.Typed .vmem (.dma sR) (.remote (Dev.tc n : Thread nD τ) (B'.squeeze S16x1024 hq) (.dma sS) hsc)}
    {k : PUnit → Prog (TpuEff nD τ sig (Elt F) Λ₀ .tc) α} {Q : α → sProp 𝕄} :
    iprop(ctx (vals A) K ∗ St c i l ∗ Snd 4 s c ∗ ownsTc c (p2S (tgt c s)) fullShare (last A c (tgt c s)) ∗ any (tgt c s) (rs2S s))
      ⊢ iprop(((St c (i + 1) l ∗ Snt 4 s c) -∗ WP c (k ⟨⟩) Q)
        -∗ WP c (.op (.enqueueDma (A') (.remote (Dev.tc n) (B'.squeeze S16x1024 hq) (.dma sS) hsc) (.dma sR) hA hB hT) k) Q) := by
  have key := wp_msg_up (F := F) (vals A) K (l := l) (Q := Q) 4 s c n i hn hi hS hR eA eB (hq := hq) shapeCasts_last rfl (q := fullShare) (X := last A c (tgt c s)) (Fr := iprop(emp))
    (hsc := hsc) (hA := hA) (hB := hB) (hT := hT) (k := k) (BI.Entails.refl _) (by
      show _ ⊢ recvPay (vals A) 4 s (tgt c s)
      unfold recvPay; rw [src_tgt]; iintro ⟨H, -⟩; iexact H)
  iintro ⟨#HC, H1, H2, H3, H4⟩ Hk
  iapply key $$ [H1 H2 H3 H4] [Hk]
  · isplitr; · iexact HC
    isplitl [H1]; · iexact H1
    isplitl [H2]; · iexact H2
    isplitl [H3]; · iexact H3
    isplitl [H4]; · iexact H4
    iempintro
  iexact Hk

/-! ## The waits at the kernel's values -/

/-- Waiting for a message of exchange 0 to be sent gives its source back: its block of the first product. -/
theorem sent0 {sp sp' : Space} {s₁ s₂ : Shape} {e₁ e₂ : EltTy} (s : Fin 3) (c : Dev nD) (i : ℕ) {sS : DmaSem sig} (hS : sS = sendS 0 s)
    {A' : Memref sig .tc sp s₁ e₁} {B' : Memref sig .tc sp' s₂ e₂} (hN : B'.view.dmaCredit = N) {hA : A'.view.WordExact} {hB : B'.view.WordExact}
    {k : PUnit → Prog (TpuEff nD τ sig (Elt F) Λ₀ .tc) α} {Q : α → sProp 𝕄} :
    iprop(ctx (vals A) K ∗ St c i l ∗ Snt 0 s c)
      ⊢ iprop(((St c i (some (false, 0, s) :: l) ∗ ownsTc c (partS (tgt c s)) fullShare (part0 A c (tgt c s))) -∗ WP c (k ⟨⟩) Q) -∗ WP c (.op (.waitDma2 sS A' B' hA hB) k) Q) :=
  wp_sent (vals A) K 0 s c i hS hN

/-- Waiting for a message of exchange 1 to be sent gives its source back: a third of the first sum's buffer. -/
theorem sent1 {sp sp' : Space} {s₁ s₂ : Shape} {e₁ e₂ : EltTy} (s : Fin 3) (c : Dev nD) (i : ℕ) {sS : DmaSem sig} (hS : sS = sendS 1 s)
    {A' : Memref sig .tc sp s₁ e₁} {B' : Memref sig .tc sp' s₂ e₂} (hN : B'.view.dmaCredit = N) {hA : A'.view.WordExact} {hB : B'.view.WordExact}
    {k : PUnit → Prog (TpuEff nD τ sig (Elt F) Λ₀ .tc) α} {Q : α → sProp 𝕄} :
    iprop(ctx (vals A) K ∗ St c i l ∗ Snt 1 s c)
      ⊢ iprop(((St c i (some (false, 1, s) :: l) ∗ ownsTc c redM (third s) (red0 A c)) -∗ WP c (k ⟨⟩) Q) -∗ WP c (.op (.waitDma2 sS A' B' hA hB) k) Q) :=
  wp_sent (vals A) K 1 s c i hS hN

/-- Waiting for a message of exchange 2 to be sent gives its source back: its block of the second product. -/
theorem sent2 {sp sp' : Space} {s₁ s₂ : Shape} {e₁ e₂ : EltTy} (s : Fin 3) (c : Dev nD) (i : ℕ) {sS : DmaSem sig} (hS : sS = sendS 2 s)
    {A' : Memref sig .tc sp s₁ e₁} {B' : Memref sig .tc sp' s₂ e₂} (hN : B'.view.dmaCredit = N) {hA : A'.view.WordExact} {hB : B'.view.WordExact}
    {k : PUnit → Prog (TpuEff nD τ sig (Elt F) Λ₀ .tc) α} {Q : α → sProp 𝕄} :
    iprop(ctx (vals A) K ∗ St c i l ∗ Snt 2 s c)
      ⊢ iprop(((St c i (some (false, 2, s) :: l) ∗ ownsTc c (partS (tgt c s)) fullShare (part1 A c (tgt c s))) -∗ WP c (k ⟨⟩) Q) -∗ WP c (.op (.waitDma2 sS A' B' hA hB) k) Q) :=
  wp_sent (vals A) K 2 s c i hS hN

/-- Waiting for a message of exchange 3 to be sent gives its source back: a third of the second sum's buffer. -/
theorem sent3 {sp sp' : Space} {s₁ s₂ : Shape} {e₁ e₂ : EltTy} (s : Fin 3) (c : Dev nD) (i : ℕ) {sS : DmaSem sig} (hS : sS = sendS 3 s)
    {A' : Memref sig .tc sp s₁ e₁} {B' : Memref sig .tc sp' s₂ e₂} (hN : B'.view.dmaCredit = N) {hA : A'.view.WordExact} {hB : B'.view.WordExact}
    {k : PUnit → Prog (TpuEff nD τ sig (Elt F) Λ₀ .tc) α} {Q : α → sProp 𝕄} :
    iprop(ctx (vals A) K ∗ St c i l ∗ Snt 3 s c)
      ⊢ iprop(((St c i (some (false, 3, s) :: l) ∗ ownsTc c redM (third s) (red1 A c)) -∗ WP c (k ⟨⟩) Q) -∗ WP c (.op (.waitDma2 sS A' B' hA hB) k) Q) :=
  wp_sent (vals A) K 3 s c i hS hN

/-- Waiting for a message of exchange 4 to be sent gives its source back: its rows of the last product. -/
theorem sent4 {sp sp' : Space} {s₁ s₂ : Shape} {e₁ e₂ : EltTy} (s : Fin 3) (c : Dev nD) (i : ℕ) {sS : DmaSem sig} (hS : sS = sendS 4 s)
    {A' : Memref sig .tc sp s₁ e₁} {B' : Memref sig .tc sp' s₂ e₂} (hN : B'.view.dmaCredit = N) {hA : A'.view.WordExact} {hB : B'.view.WordExact}
    {k : PUnit → Prog (TpuEff nD τ sig (Elt F) Λ₀ .tc) α} {Q : α → sProp 𝕄} :
    iprop(ctx (vals A) K ∗ St c i l ∗ Snt 4 s c)
      ⊢ iprop(((St c i (some (false, 4, s) :: l) ∗ ownsTc c (p2S (tgt c s)) fullShare (last A c (tgt c s))) -∗ WP c (k ⟨⟩) Q) -∗ WP c (.op (.waitDma2 sS A' B' hA hB) k) Q) :=
  wp_sent (vals A) K 4 s c i hS hN

/-- Waiting for a message of exchange 0 to arrive gives the landing slot filled with the sender's block of the first product. -/
theorem got0 {sp sp' : Space} {s₁ s₂ : Shape} {e₁ e₂ : EltTy} (s : Fin 3) (c : Dev nD) (i : ℕ) {sR : DmaSem sig} (hR : sR = recvS 0 s)
    (hl : ∀ x ∈ pays.drop i, 2 + (0 : Fin 5).val < plev x)
    {A' : Memref sig .tc sp s₁ e₁} {B' : Memref sig .tc sp' s₂ e₂} (hN : B'.view.dmaCredit = N) {hA : A'.view.WordExact} {hB : B'.view.WordExact}
    {k : PUnit → Prog (TpuEff nD τ sig (Elt F) Λ₀ .tc) α} {Q : α → sProp 𝕄} :
    iprop(ctx (vals A) K ∗ St c i l ∗ Rcv 0 s c)
      ⊢ iprop(((St c i (some (true, 0, s) :: l) ∗ ownsTc c (rsS s) fullShare (part0 A (src c s) c)) -∗ WP c (k ⟨⟩) Q) -∗ WP c (.op (.waitDma2 sR A' B' hA hB) k) Q) :=
  wp_got (vals A) K 0 s c i hR hl hN

/-- Waiting for a message of exchange 1 to arrive gives the sender's row of the gathered sums filled, and the sender's landing slot, which this device fills next. -/
theorem got1 {sp sp' : Space} {s₁ s₂ : Shape} {e₁ e₂ : EltTy} (s : Fin 3) (r : Fin 3) (hr : r = Fin.rev s) (c : Dev nD) (i : ℕ) {sR : DmaSem sig} (hR : sR = recvS 1 s)
    (hl : ∀ x ∈ pays.drop i, 2 + (1 : Fin 5).val < plev x)
    {A' : Memref sig .tc sp s₁ e₁} {B' : Memref sig .tc sp' s₂ e₂} (hN : B'.view.dmaCredit = N) {hA : A'.view.WordExact} {hB : B'.view.WordExact}
    {k : PUnit → Prog (TpuEff nD τ sig (Elt F) Λ₀ .tc) α} {Q : α → sProp 𝕄} :
    iprop(ctx (vals A) K ∗ St c i l ∗ Rcv 1 s c)
      ⊢ iprop(((St c i (some (true, 1, s) :: l) ∗ ownsTc c (xS (src c s)) fullShare (up (red0 A (src c s))) ∗ any (tgt c r) (rsS r)) -∗ WP c (k ⟨⟩) Q) -∗ WP c (.op (.waitDma2 sR A' B' hA hB) k) Q) := by
  subst hr
  rw [tgt_rev]
  exact wp_got (vals A) K 1 s c i hR hl hN

/-- Waiting for a message of exchange 2 to arrive gives the landing slot filled with the sender's block of the second product, and the sender's row of the gathered sums, which this device fills next. -/
theorem got2 {sp sp' : Space} {s₁ s₂ : Shape} {e₁ e₂ : EltTy} (s : Fin 3) (r : Fin 3) (hr : r = Fin.rev s) (c : Dev nD) (i : ℕ) {sR : DmaSem sig} (hR : sR = recvS 2 s)
    (hl : ∀ x ∈ pays.drop i, 2 + (2 : Fin 5).val < plev x)
    {A' : Memref sig .tc sp s₁ e₁} {B' : Memref sig .tc sp' s₂ e₂} (hN : B'.view.dmaCredit = N) {hA : A'.view.WordExact} {hB : B'.view.WordExact}
    {k : PUnit → Prog (TpuEff nD τ sig (Elt F) Λ₀ .tc) α} {Q : α → sProp 𝕄} :
    iprop(ctx (vals A) K ∗ St c i l ∗ Rcv 2 s c)
      ⊢ iprop(((St c i (some (true, 2, s) :: l) ∗ ownsTc c (rsS s) fullShare (part1 A (src c s) c) ∗ any (tgt c r) (xS c)) -∗ WP c (k ⟨⟩) Q) -∗ WP c (.op (.waitDma2 sR A' B' hA hB) k) Q) := by
  subst hr
  rw [tgt_rev]
  exact wp_got (vals A) K 2 s c i hR hl hN

/-- Waiting for a message of exchange 3 to arrive gives the sender's row of the second gathered sums filled. -/
theorem got3 {sp sp' : Space} {s₁ s₂ : Shape} {e₁ e₂ : EltTy} (s : Fin 3) (c : Dev nD) (i : ℕ) {sR : DmaSem sig} (hR : sR = recvS 3 s)
    (hl : ∀ x ∈ pays.drop i, 2 + (3 : Fin 5).val < plev x)
    {A' : Memref sig .tc sp s₁ e₁} {B' : Memref sig .tc sp' s₂ e₂} (hN : B'.view.dmaCredit = N) {hA : A'.view.WordExact} {hB : B'.view.WordExact}
    {k : PUnit → Prog (TpuEff nD τ sig (Elt F) Λ₀ .tc) α} {Q : α → sProp 𝕄} :
    iprop(ctx (vals A) K ∗ St c i l ∗ Rcv 3 s c)
      ⊢ iprop(((St c i (some (true, 3, s) :: l) ∗ ownsTc c (xS (src c s)) fullShare (up (red1 A (src c s)))) -∗ WP c (k ⟨⟩) Q) -∗ WP c (.op (.waitDma2 sR A' B' hA hB) k) Q) :=
  wp_got (vals A) K 3 s c i hR hl hN

/-- Waiting for a message of exchange 4 to arrive gives the landing slot filled with the sender's rows of the last product. -/
theorem got4 {sp sp' : Space} {s₁ s₂ : Shape} {e₁ e₂ : EltTy} (s : Fin 3) (c : Dev nD) (i : ℕ) {sR : DmaSem sig} (hR : sR = recvS 4 s)
    (hl : ∀ x ∈ pays.drop i, 2 + (4 : Fin 5).val < plev x)
    {A' : Memref sig .tc sp s₁ e₁} {B' : Memref sig .tc sp' s₂ e₂} (hN : B'.view.dmaCredit = N) {hA : A'.view.WordExact} {hB : B'.view.WordExact}
    {k : PUnit → Prog (TpuEff nD τ sig (Elt F) Λ₀ .tc) α} {Q : α → sProp 𝕄} :
    iprop(ctx (vals A) K ∗ St c i l ∗ Rcv 4 s c)
      ⊢ iprop(((St c i (some (true, 4, s) :: l) ∗ ownsTc c (rs2S s) fullShare (up2 (last A (src c s) c))) -∗ WP c (k ⟨⟩) Q) -∗ WP c (.op (.waitDma2 sR A' B' hA hB) k) Q) :=
  wp_got (vals A) K 4 s c i hR hl hN

/-! ## The loads and stores of the slots -/

/-- Loading a row of the gathered sums, -/
theorem ld_x (c r : Dev nD) {off : Fin 3 → ℕ} {h : ∀ a, off a + S1x64x256.size a ≤ S4x64x256.size a} (ho : off = ![r.val, 0, 0])
    {q : PosShare TreeShare} {X : S1x64x256.Idx → Elt F .f32} {hl : (Memref.whole cc0_scratch0).view.LoadsAt (Rect.unit (s := S4x64x256) off S1x64x256.size h).toLoadRect}
    {k : (S1x64x256.Idx → Elt F .f32) → Prog (TpuEff nD τ sig (Elt F) Λ₀ .tc) α} {Q : α → sProp 𝕄} :
    ownsTc c (xS r) q X
      ⊢ iprop((ownsTc c (xS r) q X -∗ WP c (k X) Q) -∗ WP c (.op (.load (Memref.whole cc0_scratch0) (Rect.unit (s := S4x64x256) off S1x64x256.size h).toLoadRect hl) k) Q) :=
  wp_ld (Memref.whole cc0_scratch0) c ho

/-- a landing slot of the blocks, -/
theorem ld_rs (c : Dev nD) (r : Fin 3) {off : Fin 3 → ℕ} {h : ∀ a, off a + S1x64x256.size a ≤ S3x64x256.size a} (ho : off = ![r.val, 0, 0])
    {q : PosShare TreeShare} {X : S1x64x256.Idx → Elt F .f32} {hl : (Memref.whole cc0_scratch3).view.LoadsAt (Rect.unit (s := S3x64x256) off S1x64x256.size h).toLoadRect}
    {k : (S1x64x256.Idx → Elt F .f32) → Prog (TpuEff nD τ sig (Elt F) Λ₀ .tc) α} {Q : α → sProp 𝕄} :
    ownsTc c (rsS r) q X
      ⊢ iprop((ownsTc c (rsS r) q X -∗ WP c (k X) Q) -∗ WP c (.op (.load (Memref.whole cc0_scratch3) (Rect.unit (s := S3x64x256) off S1x64x256.size h).toLoadRect hl) k) Q) :=
  wp_ld (Memref.whole cc0_scratch3) c ho

/-- a landing slot of the last rows, -/
theorem ld_rs2 (c : Dev nD) (r : Fin 3) {off : Fin 3 → ℕ} {h : ∀ a, off a + S1x16x1024.size a ≤ S3x16x1024.size a} (ho : off = ![r.val, 0, 0])
    {q : PosShare TreeShare} {X : S1x16x1024.Idx → Elt F .f32} {hl : (Memref.whole cc0_scratch5).view.LoadsAt (Rect.unit (s := S3x16x1024) off S1x16x1024.size h).toLoadRect}
    {k : (S1x16x1024.Idx → Elt F .f32) → Prog (TpuEff nD τ sig (Elt F) Λ₀ .tc) α} {Q : α → sProp 𝕄} :
    ownsTc c (rs2S r) q X
      ⊢ iprop((ownsTc c (rs2S r) q X -∗ WP c (k X) Q) -∗ WP c (.op (.load (Memref.whole cc0_scratch5) (Rect.unit (s := S3x16x1024) off S1x16x1024.size h).toLoadRect hl) k) Q) :=
  wp_ld (Memref.whole cc0_scratch5) c ho

/-- a device's rows of the last product. -/
theorem ld_p2 (c r : Dev nD) {off : Fin 2 → ℕ} {h : ∀ a, off a + S16x1024.size a ≤ S64x1024.size a} (ho : off = ![16 * r.val, 0])
    {q : PosShare TreeShare} {X : S16x1024.Idx → Elt F .f32} {hl : (Memref.whole cc0_scratch4).view.LoadsAt (Rect.unit (s := S64x1024) off S16x1024.size h).toLoadRect}
    {k : (S16x1024.Idx → Elt F .f32) → Prog (TpuEff nD τ sig (Elt F) Λ₀ .tc) α} {Q : α → sProp 𝕄} :
    ownsTc c (p2S r) q X
      ⊢ iprop((ownsTc c (p2S r) q X -∗ WP c (k X) Q) -∗ WP c (.op (.load (Memref.whole cc0_scratch4) (Rect.unit (s := S64x1024) off S16x1024.size h).toLoadRect hl) k) Q) :=
  wp_ld (Memref.whole cc0_scratch4) c ho

/-- Storing a device's block of the product. -/
theorem st_part (c r : Dev nD) {off : Fin 3 → ℕ} {h : ∀ a, off a + S1x64x256.size a ≤ S4x64x256.size a} (ho : off = ![r.val, 0, 0])
    {w : S1x64x256.Idx → Elt F .f32} {hl : (Memref.whole cc0_scratch1).view.LoadsAt (Rect.unit (s := S4x64x256) off S1x64x256.size h).toLoadRect}
    {hx : ((Memref.whole cc0_scratch1).access (Rect.unit (s := S4x64x256) off S1x64x256.size h)).Stores Finset.univ} {hm}
    {k : PUnit → Prog (TpuEff nD τ sig (Elt F) Λ₀ .tc) α} {Q : α → sProp 𝕄} :
    any c (partS r)
      ⊢ iprop((ownsTc c (partS r) fullShare w -∗ WP c (k ⟨⟩) Q)
        -∗ WP c (.op (.load (Memref.whole cc0_scratch1) (Rect.unit (s := S4x64x256) off S1x64x256.size h).toLoadRect hl) fun _ =>
          .op (.store (Memref.whole cc0_scratch1) (Rect.unit (s := S4x64x256) off S1x64x256.size h) w Finset.univ hx hm) k) Q) :=
  wp_ldst (Memref.whole cc0_scratch1) c ho

end Phases

end Cert.MeshProof

end

end
-- ==== Proof.Pieces.lean ====
/-
# Buffers in pieces
-/
module

public import proofs.«01_k».proof.Proof.Phases
public import Idealize.ShloMosaic.Lib.Ring

@[expose] public section

noncomputable section

namespace Cert.MeshProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Owned contents are some contents. -/
theorem to_any {sp : Space} {sh : Shape} {e : EltTy} {c : Dev nD} (M : Memref sig .tc sp sh e) (X : sh.Idx → Elt F e) :
    (ownsTc c M fullShare X : sProp 𝕄) ⊢ any c M := by unfold any; iintro H; iexists X; iexact H

/-- Every message's credit is the same. -/
theorem cr_a (B : Memref sig .tc .vmem S64x256 .f32) : B.view.dmaCredit = N := rfl
/-- The same for the rows of the last product. -/
theorem cr_b (B : Memref sig .tc .vmem S16x1024 .f32) : B.view.dmaCredit = N := rfl

section Named
variable (A : Args F) (c : Dev nD)
/-- The first hidden layer, as the body computes it. -/
theorem hid0_eq : k0_pay2 (A.x c) (A.wi 0 c) = hid0 A c := rfl
/-- A device's own block of the first product, -/
theorem blk0_eq : k0_pay8 (hid0 A c) (colB c (A.wo 0 c)) = blk0 A c c := rfl
/-- the first sum, -/
theorem sum0_eq : k0_pay9 (blk0 A c c) (part0 A (src c 0) c) (part0 A (src c 1) c) (part0 A (src c 2) c) = sum0 A c := rfl
/-- the second hidden layer after its own block, -/
theorem acc1_0_eq : k0_pay11 (sum0 A c) (rowB c (A.wi 1 c)) = acc1_0 A c := rfl
/-- after one more block, -/
theorem acc1_1_eq : k0_pay12 (acc1_0 A c) (up (red0 A (src c 2))) (rowB (src c 2) (A.wi 1 c)) = acc1_1 A c := rfl
/-- after two more, -/
theorem acc1_2_eq : k0_pay13 (acc1_1 A c) (up (red0 A (src c 0))) (rowB (src c 0) (A.wi 1 c)) = acc1_2 A c := rfl
/-- and whole. -/
theorem hid1_eq : k0_pay14 (acc1_2 A c) (up (red0 A (src c 1))) (rowB (src c 1) (A.wi 1 c)) = hid1 A c := rfl
/-- A device's own block of the second product, -/
theorem blk1_eq : k0_pay18 (hid1 A c) (colB c (A.wo 1 c)) = blk1 A c c := rfl
/-- the second sum, -/
theorem sum1_eq : k0_pay19 (blk1 A c c) (part1 A (src c 0) c) (part1 A (src c 1) c) (part1 A (src c 2) c) = sum1 A c := rfl
/-- the third hidden layer after its own block, -/
theorem acc2_0_eq : k0_pay21 (sum1 A c) (rowB c (A.wi 2 c)) = acc2_0 A c := rfl
/-- after one more block, -/
theorem acc2_1_eq : k0_pay22 (acc2_0 A c) (up (red1 A (src c 2))) (rowB (src c 2) (A.wi 2 c)) = acc2_1 A c := rfl
/-- after two more, -/
theorem acc2_2_eq : k0_pay23 (acc2_1 A c) (up (red1 A (src c 0))) (rowB (src c 0) (A.wi 2 c)) = acc2_2 A c := rfl
/-- and whole. -/
theorem hid2_eq : k0_pay24 (acc2_2 A c) (up (red1 A (src c 1))) (rowB (src c 1) (A.wi 2 c)) = hid2 A c := rfl
end Named

/-- A part that has returned. -/
theorem wp_fin {α : Type} (c : Dev nD) (x : α) {Q : α → sProp 𝕄} : Q x ⊢ WP c (.ret x) Q := by
  unfold WP; rw [wp_ret]; iintro H; imodintro; iexact H

/-- The sum's buffer in its three thirds, and back. -/
theorem red_split (X : Vec F S64x256 .f32) (c : Dev nD) :
    (ownsTc c redM fullShare X : sProp 𝕄) ⊢ iprop(ownsTc c redM (third 0) X ∗ ownsTc c redM (third 1) X ∗ ownsTc c redM (third 2) X) := by
  exact (ownsSat_thirds (c : Thread nD τ) redM fullShare (· = X)).1

/-- The three thirds of the first sum's buffer make the buffer. -/
theorem red_join (A : Args F) (c : Dev nD) :
    iprop(ownsTc c redM (third 0) (red0 A c) ∗ ownsTc c redM (third 1) (red0 A c) ∗ ownsTc c redM (third 2) (red0 A c)) ⊢ any c redM :=
  BI.Entails.trans (ownsSat_thirds (c : Thread nD τ) redM fullShare (· = red0 A c)).2 (to_any redM _)

/-! ## A buffer's rows -/

/-- One summand per device: the device itself and the three its messages go to; -/
theorem four_tgt (c : Dev nD) (Φ : Dev nD → sProp 𝕄) :
    bigSep Finset.univ Φ = iprop(Φ c ∗ Φ (tgt c 0) ∗ Φ (tgt c 1) ∗ Φ (tgt c 2)) :=
  bigSep_univ_eq_bigSepL [c, tgt c 0, tgt c 1, tgt c 2] (by revert c; decide) (by revert c; decide) Φ
/-- or the device itself and the three its messages come from. -/
theorem four_src (c : Dev nD) (Φ : Dev nD → sProp 𝕄) :
    bigSep Finset.univ Φ = iprop(Φ c ∗ Φ (src c 0) ∗ Φ (src c 1) ∗ Φ (src c 2)) :=
  bigSep_univ_eq_bigSepL [c, src c 0, src c 1, src c 2] (by revert c; decide) (by revert c; decide) Φ
/-- One summand per slot. -/
theorem three (Φ : Fin 3 → sProp 𝕄) : bigSep Finset.univ Φ = iprop(Φ 0 ∗ Φ 1 ∗ Φ 2) :=
  bigSep_univ_eq_bigSepL [0, 1, 2] (by decide) (by decide) Φ

/-- The four blocks of a buffer are disjoint -/
theorem part_disj (b b' : Dev nD) (h : b ≠ b') : Disjoint (Rect.unit (s := S4x64x256) ![b.val, 0, 0] S1x64x256.size (inb_part b)).set
    (Rect.unit (s := S4x64x256) ![b'.val, 0, 0] S1x64x256.size (inb_part b')).set :=
  Ring.lead_disjoint (NB := 4) (s := S4x64x256) 0 1 (fun b => ![b.val, 0, 0]) S1x64x256.size inb_part (fun b => (Nat.one_mul _).symm) rfl b b' h
/-- and cover it. -/
theorem part_cover : Finset.univ.biUnion (fun b : Dev nD => (Rect.unit (s := S4x64x256) ![b.val, 0, 0] S1x64x256.size (inb_part b)).set) = Finset.univ :=
  Ring.lead_cover (NB := 4) (s := S4x64x256) 0 1 (fun b => ![b.val, 0, 0]) S1x64x256.size inb_part (fun b => (Nat.one_mul _).symm) (by decide) rfl (by decide) rfl
/-- The three slots of a landing buffer are disjoint -/
theorem rs_disj (b b' : Fin 3) (h : b ≠ b') : Disjoint (Rect.unit (s := S3x64x256) ![b.val, 0, 0] S1x64x256.size (inb_rs b)).set
    (Rect.unit (s := S3x64x256) ![b'.val, 0, 0] S1x64x256.size (inb_rs b')).set :=
  Ring.lead_disjoint (NB := 3) (s := S3x64x256) 0 1 (fun b => ![b.val, 0, 0]) S1x64x256.size inb_rs (fun b => (Nat.one_mul _).symm) rfl b b' h
/-- and cover it. -/
theorem rs_cover : Finset.univ.biUnion (fun b : Fin 3 => (Rect.unit (s := S3x64x256) ![b.val, 0, 0] S1x64x256.size (inb_rs b)).set) = Finset.univ :=
  Ring.lead_cover (NB := 3) (s := S3x64x256) 0 1 (fun b => ![b.val, 0, 0]) S1x64x256.size inb_rs (fun b => (Nat.one_mul _).symm) (by decide) rfl (by decide) rfl
/-- The devices' rows of the last product are disjoint -/
theorem p2_disj (b b' : Dev nD) (h : b ≠ b') : Disjoint (Rect.unit (s := S64x1024) ![16 * b.val, 0] S16x1024.size (inb_p2 b)).set
    (Rect.unit (s := S64x1024) ![16 * b'.val, 0] S16x1024.size (inb_p2 b')).set :=
  Ring.lead_disjoint (NB := 4) (s := S64x1024) 0 16 (fun b => ![16 * b.val, 0]) S16x1024.size inb_p2 (fun b => rfl) rfl b b' h
/-- and cover it. -/
theorem p2_cover : Finset.univ.biUnion (fun b : Dev nD => (Rect.unit (s := S64x1024) ![16 * b.val, 0] S16x1024.size (inb_p2 b)).set) = Finset.univ :=
  Ring.lead_cover (NB := 4) (s := S64x1024) 0 16 (fun b => ![16 * b.val, 0]) S16x1024.size inb_p2 (fun b => rfl) (by decide) rfl (by decide) rfl
/-- The three slots of the last landing buffer are disjoint -/
theorem rs2_disj (b b' : Fin 3) (h : b ≠ b') : Disjoint (Rect.unit (s := S3x16x1024) ![b.val, 0, 0] S1x16x1024.size (inb_rs2 b)).set
    (Rect.unit (s := S3x16x1024) ![b'.val, 0, 0] S1x16x1024.size (inb_rs2 b')).set :=
  Ring.lead_disjoint (NB := 3) (s := S3x16x1024) 0 1 (fun b => ![b.val, 0, 0]) S1x16x1024.size inb_rs2 (fun b => (Nat.one_mul _).symm) rfl b b' h
/-- and cover it. -/
theorem rs2_cover : Finset.univ.biUnion (fun b : Fin 3 => (Rect.unit (s := S3x16x1024) ![b.val, 0, 0] S1x16x1024.size (inb_rs2 b)).set) = Finset.univ :=
  Ring.lead_cover (NB := 3) (s := S3x16x1024) 0 1 (fun b => ![b.val, 0, 0]) S1x16x1024.size inb_rs2 (fun b => (Nat.one_mul _).symm) (by decide) rfl (by decide) rfl

/-- A buffer at some contents is its slices at some contents, when they tile it. -/
theorem any_rects {T : Type} [Fintype T] [DecidableEq T] {sp : Space} {sh : Shape} {e : EltTy} (c : Dev nD) (M : Memref sig .tc sp sh e)
    (r : T → Rect sh) (hr : ∀ t a, (r t).stride a = 1) (hd : ∀ t t', t ≠ t' → Disjoint (r t).set (r t').set)
    (hcov : Finset.univ.biUnion (fun t => (r t).set) = Finset.univ) :
    (any c M : sProp 𝕄) ⊣⊢ bigSep Finset.univ fun t => any c (M.slice (r t) (hr t)) := by
  constructor
  · unfold any
    refine BI.Entails.trans (ownsSat_true (c : Thread nD τ) M fullShare).2 ?_
    refine BI.Entails.trans (ownsSat_mono (Ψ := fun X => ∀ t, (fun _ _ => True : T → _ → Prop) t fun j => X ((r t).emb j)) _ _ _ fun _ _ _ => trivial) ?_
    refine BI.Entails.trans (ownsSat_rects (c : Thread nD τ) M fullShare r hr hd hcov (fun _ _ => True)) ?_
    exact bigSep_mono fun t _ => (ownsSat_true (c : Thread nD τ) _ fullShare).1
  · unfold any
    refine BI.Entails.trans (bigSep_mono fun t _ => (ownsSat_true (c : Thread nD τ) (M.slice (r t) (hr t)) fullShare).2) ?_
    refine BI.Entails.trans (ownsSat_of_rects (c : Thread nD τ) M fullShare r hr hd hcov (fun _ _ => True)) ?_
    exact ownsSat_any (c : Thread nD τ) M fullShare

/-- The buffers of the protocol in their rows. -/
theorem x_rows (c : Dev nD) : (any c (Memref.whole cc0_scratch0) : sProp 𝕄)
    ⊣⊢ iprop(any c (xS c) ∗ any c (xS (src c 0)) ∗ any c (xS (src c 1)) ∗ any c (xS (src c 2))) := by
  have h := any_rects (F := F) (sh := S4x64x256) (sp := .vmem) (e := .f32) (T := Dev nD) c (Memref.whole cc0_scratch0) (fun r => Rect.unit (s := S4x64x256) ![r.val, 0, 0] S1x64x256.size (inb_part r)) (fun _ _ => rfl) part_disj part_cover
  rw [four_src c] at h; exact h
/-- The product's buffer in its blocks, -/
theorem part_rows (c : Dev nD) : (any c (Memref.whole cc0_scratch1) : sProp 𝕄)
    ⊣⊢ iprop(any c (partS c) ∗ any c (partS (tgt c 0)) ∗ any c (partS (tgt c 1)) ∗ any c (partS (tgt c 2))) := by
  have h := any_rects (F := F) (sh := S4x64x256) (sp := .vmem) (e := .f32) (T := Dev nD) c (Memref.whole cc0_scratch1) (fun r => Rect.unit (s := S4x64x256) ![r.val, 0, 0] S1x64x256.size (inb_part r)) (fun _ _ => rfl) part_disj part_cover
  rw [four_tgt c] at h; exact h
/-- the landing buffer in its slots, -/
theorem rs_rows (c : Dev nD) : (any c (Memref.whole cc0_scratch3) : sProp 𝕄)
    ⊣⊢ iprop(any c (rsS 0) ∗ any c (rsS 1) ∗ any c (rsS 2)) := by
  have h := any_rects (F := F) (sh := S3x64x256) (sp := .vmem) (e := .f32) (T := Fin 3) c (Memref.whole cc0_scratch3) (fun r => Rect.unit (s := S3x64x256) ![r.val, 0, 0] S1x64x256.size (inb_rs r)) (fun _ _ => rfl) rs_disj rs_cover
  rw [three] at h; exact h
/-- the last product's buffer in the devices' rows, -/
theorem p2_rows (c : Dev nD) : (any c (Memref.whole cc0_scratch4) : sProp 𝕄)
    ⊣⊢ iprop(any c (p2S c) ∗ any c (p2S (tgt c 0)) ∗ any c (p2S (tgt c 1)) ∗ any c (p2S (tgt c 2))) := by
  have h := any_rects (F := F) (sh := S64x1024) (sp := .vmem) (e := .f32) (T := Dev nD) c (Memref.whole cc0_scratch4) (fun r => Rect.unit (s := S64x1024) ![16 * r.val, 0] S16x1024.size (inb_p2 r)) (fun _ _ => rfl) p2_disj p2_cover
  rw [four_tgt c] at h; exact h
/-- the last landing buffer in its slots. -/
theorem rs2_rows (c : Dev nD) : (any c (Memref.whole cc0_scratch5) : sProp 𝕄)
    ⊣⊢ iprop(any c (rs2S 0) ∗ any c (rs2S 1) ∗ any c (rs2S 2)) := by
  have h := any_rects (F := F) (sh := S3x16x1024) (sp := .vmem) (e := .f32) (T := Fin 3) c (Memref.whole cc0_scratch5) (fun r => Rect.unit (s := S3x16x1024) ![r.val, 0, 0] S1x16x1024.size (inb_rs2 r)) (fun _ _ => rfl) rs2_disj rs2_cover
  rw [three] at h; exact h

/-- A scratch buffer's points-to at some contents is the buffer at some contents. -/
theorem any_whole (c : Dev nD) (b : Ref sig .tc) : (any c (Memref.whole b) : sProp 𝕄)
    ⊣⊢ iprop(∃ f : Buf (Elt F) ((c : Thread nD τ).loc b), ((c : Thread nD τ).loc b) ↦{fullShare} f) := by
  unfold any ownsTc owns
  simp only [Memref.view_whole, View.read_whole, View.set_whole]
  constructor
  · iintro ⟨%X, %f, -, H⟩; iexists f; iexact H
  · iintro ⟨%f, H⟩; iexists f; iexists f; isplitr
    · ipureintro; rfl
    · iexact H

/-- The rows of the last product by device. -/
theorem p2_split (A : Args F) (c : Dev nD) :
    (ownsTc c (Memref.whole cc0_scratch4) fullShare (prod A c) : sProp 𝕄)
      ⊢ iprop(ownsTc c (p2S c) fullShare (last A c c) ∗ ownsTc c (p2S (tgt c 0)) fullShare (last A c (tgt c 0))
        ∗ ownsTc c (p2S (tgt c 1)) fullShare (last A c (tgt c 1)) ∗ ownsTc c (p2S (tgt c 2)) fullShare (last A c (tgt c 2))) := by
  have h := owns_rects (Val := Elt F) (Ix := Unit) (Name := ℕ) (U := UU) (Lvl := ℕ) (sh := S64x1024) (sp := .vmem) (e := .f32) (T := Dev nD) (c : Thread nD τ) (Memref.whole cc0_scratch4) fullShare
    (fun r : Dev nD => Rect.unit (s := S64x1024) ![16 * r.val, 0] S16x1024.size (inb_p2 r)) (fun _ _ => rfl) p2_disj p2_cover (prod A c)
  rw [four_tgt c] at h; exact h

end Cert.MeshProof

end

end
-- ==== Proof.Parts1.lean ====
/-
# The body's parts up to the second hidden layer
-/
module

public import proofs.«01_k».proof.Proof.Pieces

@[expose] public section

noncomputable section

namespace Cert.MeshProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Parts
variable (A : Args F) (K : Dev nD × Cell → ℕ) {l : List Cell}

/-- The first two signals. -/
theorem step1 (c : Dev nD)  {Q : (Σ' (d0 : Dev nD) (v2 : BitVec 32) (v3 : Sems sig S_) (v30 : BitVec 32) (c4_i32_18 : BitVec 32), BitVec 1) → sProp 𝕄} :
    iprop(ctx (vals A) K ∗ St c 0 l ∗ dutyTok ER (barCell (src c 0)) 0 0 ∗ any c (rsS 0) ∗ any c (xS (src c 0)) ∗ any c (rs2S 0) ∗ dutyTok ER (barCell (src c 1)) 0 1 ∗ any c (rsS 1) ∗ any c (xS (src c 1)) ∗ any c (rs2S 1))
      ⊢ iprop((∀ (v2 : BitVec 32) (v30 : BitVec 32) (v31 : BitVec 1), (St c 2 l) -∗ Q ⟨c, v2, SemArray.scalar (sig.barrier 0 rfl), v30, 4#32, v31⟩) -∗ WP c (onBufs k0_part1 ) Q) := by
  unfold onBufs; rw [k0_part1_eq_skeleton]; unfold k0_part1_skel
  simp only [semSignalWord, semWaitWord, Prog.lift, Prog.bind_op, Prog.bind_ret, Prog.pure_eq_ret, wp_deviceId]
  iintro ⟨#HC, S, tb0, rs0, x0, rb0, tb1, rs1, x1, rb1⟩ Hk
  iapply (wp_sig (vals A) K c _ 0 0 (dev1 c) rfl) $$ [S tb0 rs0 x0 rb0]
  · isplitr; · iexact HC
    isplitl [S]; · iexact S
    isplitl [tb0]; · iexact tb0
    isplitl [rs0]; · iexact rs0
    isplitl [x0]; · iexact x0
    iexact rb0
  iintro S
  iapply (wp_sig (vals A) K c _ 1 1 (dev2 c) rfl) $$ [S tb1 rs1 x1 rb1]
  · isplitr; · iexact HC
    isplitl [S]; · iexact S
    isplitl [tb1]; · iexact tb1
    isplitl [rs1]; · iexact rs1
    isplitl [x1]; · iexact x1
    iexact rb1
  iintro S
  iapply (wp_fin c _); iapply Hk
  iexact S

/-- The third signal, the barrier, the first hidden layer. -/
theorem step2 (c : Dev nD) (v2 : BitVec 32) (v30 : BitVec 32) (c4 : BitVec 32) (v31 : BitVec 1) {Q : (Σ' (v52 : FVec F S64x2048 .bf16), BitVec 32) → sProp 𝕄} :
    iprop(ctx (vals A) K ∗ St c 2 l ∗ dutyTok ER (barCell (src c 2)) 0 2 ∗ any c (rsS 2) ∗ any c (xS (src c 2)) ∗ any c (rs2S 2) ∗ cred (tallyAt (barCell c) () 3) ∗ atPos ER (barCell c) 0 ∅ 0 ∗ ownsTc c (Memref.whole cc0_stg0_0) fullShare (A.x c) ∗ ownsTc c (Memref.whole cc0_stg1_0) fullShare (A.wi 0 c))
      ⊢ iprop((∀ (v63 : BitVec 32), (St c 3 (none :: l) ∗ any (tgt c 0) (rsS 0) ∗ any (tgt c 0) (xS c) ∗ any (tgt c 0) (rs2S 0) ∗ any (tgt c 1) (rsS 1) ∗ any (tgt c 1) (xS c) ∗ any (tgt c 1) (rs2S 1) ∗ any (tgt c 2) (rsS 2) ∗ any (tgt c 2) (xS c) ∗ any (tgt c 2) (rs2S 2) ∗ ownsTc c (Memref.whole cc0_stg0_0) fullShare (A.x c) ∗ ownsTc c (Memref.whole cc0_stg1_0) fullShare (A.wi 0 c)) -∗ Q ⟨hid0 A c, v63⟩) -∗ WP c (onBufs k0_part2 c v2 (SemArray.scalar (sig.barrier 0 rfl)) v30 c4 v31) Q) := by
  unfold onBufs; rw [k0_part2_eq_skeleton]; unfold k0_part2_skel
  simp only [semSignalWord, semWaitWord, Prog.lift, Prog.bind_op, Prog.bind_ret, Prog.pure_eq_ret, wp_deviceId]
  iintro ⟨#HC, S, tb2, rs2, x2, rb2, cb, ab, X, wi0⟩ Hk
  iapply (wp_sig (vals A) K c _ 2 2 (dev3 c) rfl) $$ [S tb2 rs2 x2 rb2]
  · isplitr; · iexact HC
    isplitl [S]; · iexact S
    isplitl [tb2]; · iexact tb2
    isplitl [rs2]; · iexact rs2
    isplitl [x2]; · iexact x2
    iexact rb2
  iintro S
  iapply (wp_bar (vals A) K c) $$ [S cb ab]
  · isplitr; · iexact HC
    isplitl [S]; · iexact S
    isplitl [cb]; · iexact cb
    iexact ab
  iintro ⟨S, b0, b1, b2⟩
  unfold barPay
  icases b0 with ⟨rrs0, rx0, rrb0⟩
  icases b1 with ⟨rrs1, rx1, rrb1⟩
  icases b2 with ⟨rrs2, rx2, rrb2⟩
  iapply (wp_ldw (Memref.whole cc0_stg0_0) c (by funext a; fin_cases a <;> rfl)) $$ X
  iintro X
  iapply (wp_ldw (Memref.whole cc0_stg1_0) c (by funext a; fin_cases a <;> rfl)) $$ wi0
  iintro wi0
  rw [hid0_eq A c]
  iapply (wp_fin c _); iapply Hk
  isplitl [S]; · iexact S
  isplitl [rrs0]; · iexact rrs0
  isplitl [rx0]; · iexact rx0
  isplitl [rrb0]; · iexact rrb0
  isplitl [rrs1]; · iexact rrs1
  isplitl [rx1]; · iexact rx1
  isplitl [rrb1]; · iexact rrb1
  isplitl [rrs2]; · iexact rrs2
  isplitl [rx2]; · iexact rx2
  isplitl [rrb2]; · iexact rrb2
  isplitl [X]; · iexact X
  iexact wi0

/-- The first block of the first product sent. -/
theorem step3 (c : Dev nD) (v2 : BitVec 32) (v63 : BitVec 32) {Q : (Σ' (v94 : BitVec 32) (v99 : FVec F S2048x256 .bf16), FVec F S64x256 .f32) → sProp 𝕄} :
    iprop(ctx (vals A) K ∗ St c 3 l ∗ ownsTc c (Memref.whole cc0_stg2_0) fullShare (A.wo 0 c) ∗ any c (partS (tgt c 1)) ∗ Snd 0 1 c ∗ any (tgt c 1) (rsS 1))
      ⊢ iprop((∀ (v94 : BitVec 32), (St c 4 l ∗ Snt 0 1 c ∗ ownsTc c (Memref.whole cc0_stg2_0) fullShare (A.wo 0 c)) -∗ Q ⟨v94, k0_pay4 (colB (tgt c 2) (A.wo 0 c)), constant S64x256 .f32 0x00000000#32⟩) -∗ WP c (onBufs k0_part3 c v2 (hid0 A c) v63) Q) := by
  unfold onBufs; rw [k0_part3_eq_skeleton]; unfold k0_part3_skel
  simp only [semSignalWord, semWaitWord, Prog.lift, Prog.bind_op, Prog.bind_ret, Prog.pure_eq_ret, wp_deviceId]
  iintro ⟨#HC, S, wo0, pt1, snd01, rrs1⟩ Hk
  iapply (wp_ldb (Memref.whole cc0_stg2_0) c (inb_col (tgt c 1)) (off1_2 c) (Y := colB (tgt c 1) (A.wo 0 c)) rfl) $$ wo0
  iintro wo0
  iapply (st_part c (tgt c 1) (w := part0 A c (tgt c 1)) (off2_2 c)) $$ pt1
  iintro pt1
  iapply (snd0 A K 1 c _ 3 (dev4 c) rfl sendS_0_1 recvS_0_1 (slice_at _ _ (off3_2 c)) rfl) $$ [S snd01 pt1 rrs1]
  · isplitr; · iexact HC
    isplitl [S]; · iexact S
    isplitl [snd01]; · iexact snd01
    isplitl [pt1]; · iexact pt1
    iexact rrs1
  iintro ⟨S, snt01⟩
  iapply (wp_ldb (Memref.whole cc0_stg2_0) c (inb_col (tgt c 2)) (off1_1 c) (Y := colB (tgt c 2) (A.wo 0 c)) rfl) $$ wo0
  iintro wo0
  iapply (wp_fin c _); iapply Hk
  isplitl [S]; · iexact S
  isplitl [snt01]; · iexact snt01
  iexact wo0

/-- The second block of the first product sent. -/
theorem step4 (c : Dev nD) (v2 : BitVec 32) (v94 : BitVec 32) {Q : (Σ' (v125 : BitVec 32), FVec F S64x256 .f32) → sProp 𝕄} :
    iprop(ctx (vals A) K ∗ St c 4 l ∗ any c (partS (tgt c 2)) ∗ Snd 0 2 c ∗ any (tgt c 2) (rsS 2) ∗ ownsTc c (Memref.whole cc0_stg2_0) fullShare (A.wo 0 c))
      ⊢ iprop((∀ (v125 : BitVec 32), (St c 5 l ∗ Snt 0 2 c ∗ ownsTc c (Memref.whole cc0_stg2_0) fullShare (A.wo 0 c)) -∗ Q ⟨v125, k0_pay6 (hid0 A c) (colB (tgt c 0) (A.wo 0 c))⟩) -∗ WP c (onBufs k0_part4 c v2 (hid0 A c) v94 (k0_pay4 (colB (tgt c 2) (A.wo 0 c))) (constant S64x256 .f32 0x00000000#32)) Q) := by
  unfold onBufs; rw [k0_part4_eq_skeleton]; unfold k0_part4_skel
  simp only [semSignalWord, semWaitWord, Prog.lift, Prog.bind_op, Prog.bind_ret, Prog.pure_eq_ret, wp_deviceId]
  iintro ⟨#HC, S, pt2, snd02, rrs2, wo0⟩ Hk
  iapply (st_part c (tgt c 2) (w := part0 A c (tgt c 2)) (off2_1 c)) $$ pt2
  iintro pt2
  iapply (snd0 A K 2 c _ 4 (dev5 c) rfl sendS_0_2 recvS_0_2 (slice_at _ _ (off3_1 c)) rfl) $$ [S snd02 pt2 rrs2]
  · isplitr; · iexact HC
    isplitl [S]; · iexact S
    isplitl [snd02]; · iexact snd02
    isplitl [pt2]; · iexact pt2
    iexact rrs2
  iintro ⟨S, snt02⟩
  iapply (wp_ldb (Memref.whole cc0_stg2_0) c (inb_col (tgt c 0)) (off1_3 c) (Y := colB (tgt c 0) (A.wo 0 c)) rfl) $$ wo0
  iintro wo0
  iapply (wp_fin c _); iapply Hk
  isplitl [S]; · iexact S
  isplitl [snt02]; · iexact snt02
  iexact wo0

/-- The third block of the first product sent, the own block computed. -/
theorem step5 (c : Dev nD) (v2 : BitVec 32) (v63 : BitVec 32) (v125 : BitVec 32) {Q : (Σ' (v151 : FVec F S64x256 .f32) (v158 : BitVec 32), BitVec 32) → sProp 𝕄} :
    iprop(ctx (vals A) K ∗ St c 5 l ∗ any c (partS (tgt c 0)) ∗ Snd 0 0 c ∗ any (tgt c 0) (rsS 0) ∗ ownsTc c (Memref.whole cc0_stg2_0) fullShare (A.wo 0 c) ∗ Snt 0 1 c)
      ⊢ iprop((∀ (v158 : BitVec 32) (c0 : BitVec 32), (St c 6 (some (false, 0, 1) :: l) ∗ Snt 0 0 c ∗ ownsTc c (Memref.whole cc0_stg2_0) fullShare (A.wo 0 c) ∗ ownsTc c (partS (tgt c 1)) fullShare (part0 A c (tgt c 1))) -∗ Q ⟨blk0 A c c, v158, c0⟩) -∗ WP c (onBufs k0_part5 c v2 (hid0 A c) v63 v125 (k0_pay6 (hid0 A c) (colB (tgt c 0) (A.wo 0 c)))) Q) := by
  unfold onBufs; rw [k0_part5_eq_skeleton]; unfold k0_part5_skel
  simp only [semSignalWord, semWaitWord, Prog.lift, Prog.bind_op, Prog.bind_ret, Prog.pure_eq_ret, wp_deviceId]
  iintro ⟨#HC, S, pt0, snd00, rrs0, wo0, snt01⟩ Hk
  iapply (st_part c (tgt c 0) (w := part0 A c (tgt c 0)) (off2_3 c)) $$ pt0
  iintro pt0
  iapply (snd0 A K 0 c _ 5 (dev6 c) rfl sendS_0_0 recvS_0_0 (slice_at _ _ (off3_3 c)) rfl) $$ [S snd00 pt0 rrs0]
  · isplitr; · iexact HC
    isplitl [S]; · iexact S
    isplitl [snd00]; · iexact snd00
    isplitl [pt0]; · iexact pt0
    iexact rrs0
  iintro ⟨S, snt00⟩
  iapply (wp_ldb (Memref.whole cc0_stg2_0) c (inb_col (c)) (k0_off4_eq c) (Y := colB (c) (A.wo 0 c)) rfl) $$ wo0
  iintro wo0
  iapply (sent0 A K 1 c 6 sendS_0_1 (cr_a _)) $$ [S snt01]
  · isplitr; · iexact HC
    isplitl [S]; · iexact S
    iexact snt01
  iintro ⟨S, pt1⟩
  rw [blk0_eq A c]
  iapply (wp_fin c _); iapply Hk
  isplitl [S]; · iexact S
  isplitl [snt00]; · iexact snt00
  isplitl [wo0]; · iexact wo0
  iexact pt1

/-- The first two blocks of the first product received. -/
theorem step6 (c : Dev nD) (v94 : BitVec 32) (v158 : BitVec 32) (c0 : BitVec 32) {Q : (PUnit) → sProp 𝕄} :
    iprop(ctx (vals A) K ∗ St c 6 l ∗ Rcv 0 1 c ∗ Snt 0 2 c ∗ Rcv 0 2 c)
      ⊢ iprop(((St c 6 (some (true, 0, 2) :: some (false, 0, 2) :: some (true, 0, 1) :: l) ∗ ownsTc c (rsS 1) fullShare (part0 A (src c 1) c) ∗ ownsTc c (partS (tgt c 2)) fullShare (part0 A c (tgt c 2)) ∗ ownsTc c (rsS 2) fullShare (part0 A (src c 2) c)) -∗ Q ⟨⟩) -∗ WP c (onBufs k0_part6 c v94 v158 c0) Q) := by
  unfold onBufs; rw [k0_part6_eq_skeleton]; unfold k0_part6_skel
  simp only [semSignalWord, semWaitWord, Prog.lift, Prog.bind_op, Prog.bind_ret, Prog.pure_eq_ret, wp_deviceId]
  iintro ⟨#HC, S, rcv01, snt02, rcv02⟩ Hk
  iapply (got0 A K 1 c 6 recvS_0_1 (by decide) (cr_a _)) $$ [S rcv01]
  · isplitr; · iexact HC
    isplitl [S]; · iexact S
    iexact rcv01
  iintro ⟨S, rs1⟩
  iapply (sent0 A K 2 c 6 sendS_0_2 (cr_a _)) $$ [S snt02]
  · isplitr; · iexact HC
    isplitl [S]; · iexact S
    iexact snt02
  iintro ⟨S, pt2⟩
  iapply (got0 A K 2 c 6 recvS_0_2 (by decide) (cr_a _)) $$ [S rcv02]
  · isplitr; · iexact HC
    isplitl [S]; · iexact S
    iexact rcv02
  iintro ⟨S, rs2⟩
  iapply (wp_fin c _); iapply Hk
  isplitl [S]; · iexact S
  isplitl [rs1]; · iexact rs1
  isplitl [pt2]; · iexact pt2
  iexact rs2

/-- The third block received, the first sum stored. -/
theorem step7 (c : Dev nD) (v2 : BitVec 32) (v125 : BitVec 32) {Q : (Σ' (v202 : FVec F S64x256 .f32) (v208 : BitVec 32) (v209 : BitVec 32), BitVec 1) → sProp 𝕄} :
    iprop(ctx (vals A) K ∗ St c 6 l ∗ Snt 0 0 c ∗ Rcv 0 0 c ∗ ownsTc c (rsS 1) fullShare (part0 A (src c 1) c) ∗ ownsTc c (rsS 2) fullShare (part0 A (src c 2) c) ∗ any c redM)
      ⊢ iprop((∀ (v208 : BitVec 32) (v209 : BitVec 32) (v210 : BitVec 1), (St c 6 (some (true, 0, 0) :: some (false, 0, 0) :: l) ∗ ownsTc c (partS (tgt c 0)) fullShare (part0 A c (tgt c 0)) ∗ ownsTc c (rsS 0) fullShare (part0 A (src c 0) c) ∗ ownsTc c (rsS 1) fullShare (part0 A (src c 1) c) ∗ ownsTc c (rsS 2) fullShare (part0 A (src c 2) c) ∗ ownsTc c redM (third 0) (red0 A c) ∗ ownsTc c redM (third 1) (red0 A c) ∗ ownsTc c redM (third 2) (red0 A c)) -∗ Q ⟨sum0 A c, v208, v209, v210⟩) -∗ WP c (onBufs k0_part7 c v2 v125 (blk0 A c c)) Q) := by
  unfold onBufs; rw [k0_part7_eq_skeleton]; unfold k0_part7_skel
  simp only [semSignalWord, semWaitWord, Prog.lift, Prog.bind_op, Prog.bind_ret, Prog.pure_eq_ret, wp_deviceId]
  iintro ⟨#HC, S, snt00, rcv00, rs1, rs2, red⟩ Hk
  iapply (sent0 A K 0 c 6 sendS_0_0 (cr_a _)) $$ [S snt00]
  · isplitr; · iexact HC
    isplitl [S]; · iexact S
    iexact snt00
  iintro ⟨S, pt0⟩
  iapply (got0 A K 0 c 6 recvS_0_0 (by decide) (cr_a _)) $$ [S rcv00]
  · isplitr; · iexact HC
    isplitl [S]; · iexact S
    iexact rcv00
  iintro ⟨S, rs0⟩
  iapply (ld_rs c 0 rfl) $$ rs0
  iintro rs0
  iapply (ld_rs c 1 rfl) $$ rs1
  iintro rs1
  iapply (ld_rs c 2 rfl) $$ rs2
  iintro rs2
  iapply (wp_ldstw redM c (w := red0 A c) (by funext a; fin_cases a <;> rfl)) $$ red
  iintro red
  ihave red := (red_split _ c) $$ red
  icases red with ⟨th0, th1, th2⟩
  rw [sum0_eq A c]
  iapply (wp_fin c _); iapply Hk
  isplitl [S]; · iexact S
  isplitl [pt0]; · iexact pt0
  isplitl [rs0]; · iexact rs0
  isplitl [rs1]; · iexact rs1
  isplitl [rs2]; · iexact rs2
  isplitl [th0]; · iexact th0
  isplitl [th1]; · iexact th1
  iexact th2

/-- Two messages of the first sum. -/
theorem step8 (c : Dev nD) (v2 : BitVec 32) (v208 : BitVec 32) (v209 : BitVec 32) (v210 : BitVec 1) {Q : (PUnit) → sProp 𝕄} :
    iprop(ctx (vals A) K ∗ St c 6 l ∗ ownsTc c (rsS 1) fullShare (part0 A (src c 1) c) ∗ Snd 1 1 c ∗ ownsTc c redM (third 1) (red0 A c) ∗ any (tgt c 1) (xS c) ∗ ownsTc c (rsS 0) fullShare (part0 A (src c 0) c) ∗ Snd 1 2 c ∗ ownsTc c redM (third 2) (red0 A c) ∗ any (tgt c 2) (xS c))
      ⊢ iprop(((St c 8 l ∗ Snt 1 1 c ∗ Snt 1 2 c) -∗ Q ⟨⟩) -∗ WP c (onBufs k0_part8 c v2 v208 v209 v210) Q) := by
  unfold onBufs; rw [k0_part8_eq_skeleton]; unfold k0_part8_skel
  simp only [semSignalWord, semWaitWord, Prog.lift, Prog.bind_op, Prog.bind_ret, Prog.pure_eq_ret, wp_deviceId]
  iintro ⟨#HC, S, rs1, snd11, th1, rx1, rs0, snd12, th2, rx2⟩ Hk
  ihave rs1 := (to_any _ _) $$ rs1
  iapply (snd1 A K 1 1 rfl c _ 6 (dev7 c) rfl sendS_1_1 recvS_1_1 rfl (slice_at _ _ (k0_off5_eq c))) $$ [S snd11 th1 rx1 rs1]
  · isplitr; · iexact HC
    isplitl [S]; · iexact S
    isplitl [snd11]; · iexact snd11
    isplitl [th1]; · iexact th1
    isplitl [rx1]; · iexact rx1
    iexact rs1
  iintro ⟨S, snt11⟩
  ihave rs0 := (to_any _ _) $$ rs0
  iapply (snd1 A K 2 0 rfl c _ 7 (dev8 c) rfl sendS_1_2 recvS_1_2 rfl (slice_at _ _ (k0_off5_eq c))) $$ [S snd12 th2 rx2 rs0]
  · isplitr; · iexact HC
    isplitl [S]; · iexact S
    isplitl [snd12]; · iexact snd12
    isplitl [th2]; · iexact th2
    isplitl [rx2]; · iexact rx2
    iexact rs0
  iintro ⟨S, snt12⟩
  iapply (wp_fin c _); iapply Hk
  isplitl [S]; · iexact S
  isplitl [snt11]; · iexact snt11
  iexact snt12

/-- The third message of the first sum; the own part of the second layer. -/
theorem step9 (c : Dev nD) (v2 : BitVec 32) {Q : (Σ' (v269 : FVec F S64x2048 .f32) (v272 : BitVec 32) (v273 : BitVec 32) (v274 : BitVec 1), BitVec 1) → sProp 𝕄} :
    iprop(ctx (vals A) K ∗ St c 8 l ∗ ownsTc c (rsS 2) fullShare (part0 A (src c 2) c) ∗ Snd 1 0 c ∗ ownsTc c redM (third 0) (red0 A c) ∗ any (tgt c 0) (xS c) ∗ ownsTc c (Memref.whole cc0_stg3_0) fullShare (A.wi 1 c))
      ⊢ iprop((∀ (v272 : BitVec 32) (v273 : BitVec 32) (v274 : BitVec 1) (v277 : BitVec 1), (St c 9 l ∗ Snt 1 0 c ∗ ownsTc c (Memref.whole cc0_stg3_0) fullShare (A.wi 1 c)) -∗ Q ⟨acc1_0 A c, v272, v273, v274, v277⟩) -∗ WP c (onBufs k0_part9 c v2 (sum0 A c)) Q) := by
  unfold onBufs; rw [k0_part9_eq_skeleton]; unfold k0_part9_skel
  simp only [semSignalWord, semWaitWord, Prog.lift, Prog.bind_op, Prog.bind_ret, Prog.pure_eq_ret, wp_deviceId]
  iintro ⟨#HC, S, rs2, snd10, th0, rx0, wi1⟩ Hk
  ihave rs2 := (to_any _ _) $$ rs2
  iapply (snd1 A K 0 2 rfl c _ 8 (dev9 c) rfl sendS_1_0 recvS_1_0 rfl (slice_at _ _ (k0_off5_eq c))) $$ [S snd10 th0 rx0 rs2]
  · isplitr; · iexact HC
    isplitl [S]; · iexact S
    isplitl [snd10]; · iexact snd10
    isplitl [th0]; · iexact th0
    isplitl [rx0]; · iexact rx0
    iexact rs2
  iintro ⟨S, snt10⟩
  iapply (wp_ldb (Memref.whole cc0_stg3_0) c (inb_row (c)) (k0_off6_eq c) (Y := rowB (c) (A.wi 1 c)) rfl) $$ wi1
  iintro wi1
  rw [acc1_0_eq A c]
  iapply (wp_fin c _); iapply Hk
  isplitl [S]; · iexact S
  isplitl [snt10]; · iexact snt10
  iexact wi1

/-- A sum received and taken into the second layer. -/
theorem step10 (c : Dev nD) (v2 : BitVec 32) (v272 : BitVec 32) (v273 : BitVec 32) (v274 : BitVec 1) (v277 : BitVec 1) {Q : (Σ' (v297 : FVec F S64x2048 .f32), BitVec 32) → sProp 𝕄} :
    iprop(ctx (vals A) K ∗ St c 9 l ∗ Rcv 1 2 c ∗ ownsTc c (Memref.whole cc0_stg3_0) fullShare (A.wi 1 c))
      ⊢ iprop((∀ (v308 : BitVec 32), (St c 9 (some (true, 1, 2) :: l) ∗ any (tgt c 0) (rsS 0) ∗ ownsTc c (xS (src c 2)) fullShare (up (red0 A (src c 2))) ∗ ownsTc c (Memref.whole cc0_stg3_0) fullShare (A.wi 1 c)) -∗ Q ⟨acc1_1 A c, v308⟩) -∗ WP c (onBufs k0_part10 c v2 (acc1_0 A c) v272 v273 v274 v277) Q) := by
  unfold onBufs; rw [k0_part10_eq_skeleton]; unfold k0_part10_skel
  simp only [semSignalWord, semWaitWord, Prog.lift, Prog.bind_op, Prog.bind_ret, Prog.pure_eq_ret, wp_deviceId]
  iintro ⟨#HC, S, rcv12, wi1⟩ Hk
  iapply (got1 A K 2 0 rfl c 9 recvS_1_2 (by decide) (cr_a _)) $$ [S rcv12]
  · isplitr; · iexact HC
    isplitl [S]; · iexact S
    iexact rcv12
  iintro ⟨S, x2, rrs0⟩
  iapply (ld_x c (src c 2) (off8_1 c)) $$ x2
  iintro x2
  iapply (wp_ldb (Memref.whole cc0_stg3_0) c (inb_row (src c 2)) (off9_1 c) (Y := rowB (src c 2) (A.wi 1 c)) rfl) $$ wi1
  iintro wi1
  rw [acc1_1_eq A c]
  iapply (wp_fin c _); iapply Hk
  isplitl [S]; · iexact S
  isplitl [rrs0]; · iexact rrs0
  isplitl [x2]; · iexact x2
  iexact wi1

/-- Two more sums received. -/
theorem step11 (c : Dev nD) (v2 : BitVec 32) (v308 : BitVec 32) {Q : (Σ' (v325 : FVec F S64x2048 .f32) (v336 : BitVec 32), Vec F S1x64x256 .f32) → sProp 𝕄} :
    iprop(ctx (vals A) K ∗ St c 9 l ∗ Rcv 1 0 c ∗ ownsTc c (Memref.whole cc0_stg3_0) fullShare (A.wi 1 c) ∗ Rcv 1 1 c)
      ⊢ iprop((∀ (v336 : BitVec 32), (St c 9 (some (true, 1, 1) :: some (true, 1, 0) :: l) ∗ any (tgt c 2) (rsS 2) ∗ ownsTc c (xS (src c 0)) fullShare (up (red0 A (src c 0))) ∗ ownsTc c (Memref.whole cc0_stg3_0) fullShare (A.wi 1 c) ∗ any (tgt c 1) (rsS 1) ∗ ownsTc c (xS (src c 1)) fullShare (up (red0 A (src c 1)))) -∗ Q ⟨acc1_2 A c, v336, up (red0 A (src c 1))⟩) -∗ WP c (onBufs k0_part11 c v2 (acc1_1 A c) v308) Q) := by
  unfold onBufs; rw [k0_part11_eq_skeleton]; unfold k0_part11_skel
  simp only [semSignalWord, semWaitWord, Prog.lift, Prog.bind_op, Prog.bind_ret, Prog.pure_eq_ret, wp_deviceId]
  iintro ⟨#HC, S, rcv10, wi1, rcv11⟩ Hk
  iapply (got1 A K 0 2 rfl c 9 recvS_1_0 (by decide) (cr_a _)) $$ [S rcv10]
  · isplitr; · iexact HC
    isplitl [S]; · iexact S
    iexact rcv10
  iintro ⟨S, x0, rrs2⟩
  iapply (ld_x c (src c 0) (off8_3 c)) $$ x0
  iintro x0
  iapply (wp_ldb (Memref.whole cc0_stg3_0) c (inb_row (src c 0)) (off9_3 c) (Y := rowB (src c 0) (A.wi 1 c)) rfl) $$ wi1
  iintro wi1
  iapply (got1 A K 1 1 rfl c 9 recvS_1_1 (by decide) (cr_a _)) $$ [S rcv11]
  · isplitr; · iexact HC
    isplitl [S]; · iexact S
    iexact rcv11
  iintro ⟨S, x1, rrs1⟩
  iapply (ld_x c (src c 1) (off8_2 c)) $$ x1
  iintro x1
  rw [acc1_2_eq A c]
  iapply (wp_fin c _); iapply Hk
  isplitl [S]; · iexact S
  isplitl [rrs2]; · iexact rrs2
  isplitl [x0]; · iexact x0
  isplitl [wi1]; · iexact wi1
  isplitl [rrs1]; · iexact rrs1
  iexact x1

/-- The second hidden layer; the first sum's messages have left. -/
theorem step12 (c : Dev nD) (v2 : BitVec 32) (v336 : BitVec 32) {Q : (Σ' (v368 : FVec F S64x2048 .bf16) (v371 : BitVec 32), BitVec 32) → sProp 𝕄} :
    iprop(ctx (vals A) K ∗ St c 9 l ∗ ownsTc c (Memref.whole cc0_stg3_0) fullShare (A.wi 1 c) ∗ Snt 1 1 c ∗ Snt 1 2 c ∗ Snt 1 0 c)
      ⊢ iprop((∀ (v371 : BitVec 32) (v372 : BitVec 32), (St c 9 (some (false, 1, 0) :: some (false, 1, 2) :: some (false, 1, 1) :: l) ∗ ownsTc c (Memref.whole cc0_stg3_0) fullShare (A.wi 1 c) ∗ ownsTc c redM (third 1) (red0 A c) ∗ ownsTc c redM (third 2) (red0 A c) ∗ ownsTc c redM (third 0) (red0 A c)) -∗ Q ⟨hid1 A c, v371, v372⟩) -∗ WP c (onBufs k0_part12 c v2 (acc1_2 A c) v336 (up (red0 A (src c 1)))) Q) := by
  unfold onBufs; rw [k0_part12_eq_skeleton]; unfold k0_part12_skel
  simp only [semSignalWord, semWaitWord, Prog.lift, Prog.bind_op, Prog.bind_ret, Prog.pure_eq_ret, wp_deviceId]
  iintro ⟨#HC, S, wi1, snt11, snt12, snt10⟩ Hk
  iapply (wp_ldb (Memref.whole cc0_stg3_0) c (inb_row (src c 1)) (off9_2 c) (Y := rowB (src c 1) (A.wi 1 c)) rfl) $$ wi1
  iintro wi1
  iapply (sent1 A K 1 c 9 sendS_1_1 (cr_a _)) $$ [S snt11]
  · isplitr; · iexact HC
    isplitl [S]; · iexact S
    iexact snt11
  iintro ⟨S, th1⟩
  iapply (sent1 A K 2 c 9 sendS_1_2 (cr_a _)) $$ [S snt12]
  · isplitr; · iexact HC
    isplitl [S]; · iexact S
    iexact snt12
  iintro ⟨S, th2⟩
  iapply (sent1 A K 0 c 9 sendS_1_0 (cr_a _)) $$ [S snt10]
  · isplitr; · iexact HC
    isplitl [S]; · iexact S
    iexact snt10
  iintro ⟨S, th0⟩
  rw [hid1_eq A c]
  iapply (wp_fin c _); iapply Hk
  isplitl [S]; · iexact S
  isplitl [wi1]; · iexact wi1
  isplitl [th1]; · iexact th1
  isplitl [th2]; · iexact th2
  iexact th0

end Parts

end Cert.MeshProof

end

end
-- ==== Proof.Parts2.lean ====
/-
# The body's parts up to the third hidden layer
-/
module

public import proofs.«01_k».proof.Proof.Pieces

@[expose] public section

noncomputable section

namespace Cert.MeshProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Parts
variable (A : Args F) (K : Dev nD × Cell → ℕ) {l : List Cell}

/-- The first block of the second product sent. -/
theorem step13 (c : Dev nD) (v2 : BitVec 32) (v371 : BitVec 32) (v372 : BitVec 32) {Q : (Σ' (v379 : BitVec 32) (v402 : BitVec 32) (v403 : BitVec 32) (v404 : BitVec 1), BitVec 1) → sProp 𝕄} :
    iprop(ctx (vals A) K ∗ St c 9 l ∗ ownsTc c (Memref.whole cc0_stg4_0) fullShare (A.wo 1 c) ∗ ownsTc c (partS (tgt c 1)) fullShare (part0 A c (tgt c 1)) ∗ ownsTc c (xS (src c 1)) fullShare (up (red0 A (src c 1))) ∗ Snd 2 1 c ∗ any (tgt c 1) (rsS 1))
      ⊢ iprop((∀ (v379 : BitVec 32) (v402 : BitVec 32) (v403 : BitVec 32) (v404 : BitVec 1) (v405 : BitVec 1), (St c 10 l ∗ ownsTc c (Memref.whole cc0_stg4_0) fullShare (A.wo 1 c) ∗ Snt 2 1 c) -∗ Q ⟨v379, v402, v403, v404, v405⟩) -∗ WP c (onBufs k0_part13 c v2 (hid1 A c) v371 v372) Q) := by
  unfold onBufs; rw [k0_part13_eq_skeleton]; unfold k0_part13_skel
  simp only [semSignalWord, semWaitWord, Prog.lift, Prog.bind_op, Prog.bind_ret, Prog.pure_eq_ret, wp_deviceId]
  iintro ⟨#HC, S, wo1, pt1, x1, snd21, rrs1⟩ Hk
  iapply (wp_ldb (Memref.whole cc0_stg4_0) c (inb_col (tgt c 1)) (off1_2 c) (Y := colB (tgt c 1) (A.wo 1 c)) rfl) $$ wo1
  iintro wo1
  ihave pt1 := (to_any _ _) $$ pt1
  iapply (st_part c (tgt c 1) (w := part1 A c (tgt c 1)) (off2_2 c)) $$ pt1
  iintro pt1
  ihave x1 := (to_any _ _) $$ x1
  iapply (snd2 A K 1 1 rfl c _ 9 (dev10 c) rfl sendS_2_1 recvS_2_1 (slice_at _ _ (off3_2 c)) rfl) $$ [S snd21 pt1 rrs1 x1]
  · isplitr; · iexact HC
    isplitl [S]; · iexact S
    isplitl [snd21]; · iexact snd21
    isplitl [pt1]; · iexact pt1
    isplitl [rrs1]; · iexact rrs1
    iexact x1
  iintro ⟨S, snt21⟩
  iapply (wp_fin c _); iapply Hk
  isplitl [S]; · iexact S
  isplitl [wo1]; · iexact wo1
  iexact snt21

/-- The second block of the second product sent. -/
theorem step14 (c : Dev nD) (v2 : BitVec 32) (v402 : BitVec 32) (v403 : BitVec 32) (v404 : BitVec 1) (v405 : BitVec 1) {Q : (Σ' (v410 : BitVec 32) (v433 : BitVec 32) (v434 : BitVec 32), BitVec 1) → sProp 𝕄} :
    iprop(ctx (vals A) K ∗ St c 10 l ∗ ownsTc c (Memref.whole cc0_stg4_0) fullShare (A.wo 1 c) ∗ ownsTc c (partS (tgt c 2)) fullShare (part0 A c (tgt c 2)) ∗ ownsTc c (xS (src c 0)) fullShare (up (red0 A (src c 0))) ∗ Snd 2 2 c ∗ any (tgt c 2) (rsS 2))
      ⊢ iprop((∀ (v410 : BitVec 32) (v433 : BitVec 32) (v434 : BitVec 32) (v439 : BitVec 1), (St c 11 l ∗ ownsTc c (Memref.whole cc0_stg4_0) fullShare (A.wo 1 c) ∗ Snt 2 2 c) -∗ Q ⟨v410, v433, v434, v439⟩) -∗ WP c (onBufs k0_part14 c v2 (hid1 A c) v402 v403 v404 v405) Q) := by
  unfold onBufs; rw [k0_part14_eq_skeleton]; unfold k0_part14_skel
  simp only [semSignalWord, semWaitWord, Prog.lift, Prog.bind_op, Prog.bind_ret, Prog.pure_eq_ret, wp_deviceId]
  iintro ⟨#HC, S, wo1, pt2, x0, snd22, rrs2⟩ Hk
  iapply (wp_ldb (Memref.whole cc0_stg4_0) c (inb_col (tgt c 2)) (off1_1 c) (Y := colB (tgt c 2) (A.wo 1 c)) rfl) $$ wo1
  iintro wo1
  ihave pt2 := (to_any _ _) $$ pt2
  iapply (st_part c (tgt c 2) (w := part1 A c (tgt c 2)) (off2_1 c)) $$ pt2
  iintro pt2
  ihave x0 := (to_any _ _) $$ x0
  iapply (snd2 A K 2 0 rfl c _ 10 (dev11 c) rfl sendS_2_2 recvS_2_2 (slice_at _ _ (off3_1 c)) rfl) $$ [S snd22 pt2 rrs2 x0]
  · isplitr; · iexact HC
    isplitl [S]; · iexact S
    isplitl [snd22]; · iexact snd22
    isplitl [pt2]; · iexact pt2
    isplitl [rrs2]; · iexact rrs2
    iexact x0
  iintro ⟨S, snt22⟩
  iapply (wp_fin c _); iapply Hk
  isplitl [S]; · iexact S
  isplitl [wo1]; · iexact wo1
  iexact snt22

/-- The third block of the second product sent, the own block computed. -/
theorem step15 (c : Dev nD) (v2 : BitVec 32) (v433 : BitVec 32) (v434 : BitVec 32) (v439 : BitVec 1) {Q : (Σ' (v441 : BitVec 32), FVec F S64x256 .f32) → sProp 𝕄} :
    iprop(ctx (vals A) K ∗ St c 11 l ∗ ownsTc c (Memref.whole cc0_stg4_0) fullShare (A.wo 1 c) ∗ ownsTc c (partS (tgt c 0)) fullShare (part0 A c (tgt c 0)) ∗ ownsTc c (xS (src c 2)) fullShare (up (red0 A (src c 2))) ∗ Snd 2 0 c ∗ any (tgt c 0) (rsS 0))
      ⊢ iprop((∀ (v441 : BitVec 32), (St c 12 l ∗ Snt 2 0 c ∗ ownsTc c (Memref.whole cc0_stg4_0) fullShare (A.wo 1 c)) -∗ Q ⟨v441, blk1 A c c⟩) -∗ WP c (onBufs k0_part15 c v2 (hid1 A c) v433 v434 v439) Q) := by
  unfold onBufs; rw [k0_part15_eq_skeleton]; unfold k0_part15_skel
  simp only [semSignalWord, semWaitWord, Prog.lift, Prog.bind_op, Prog.bind_ret, Prog.pure_eq_ret, wp_deviceId]
  iintro ⟨#HC, S, wo1, pt0, x2, snd20, rrs0⟩ Hk
  iapply (wp_ldb (Memref.whole cc0_stg4_0) c (inb_col (tgt c 0)) (off1_3 c) (Y := colB (tgt c 0) (A.wo 1 c)) rfl) $$ wo1
  iintro wo1
  ihave pt0 := (to_any _ _) $$ pt0
  iapply (st_part c (tgt c 0) (w := part1 A c (tgt c 0)) (off2_3 c)) $$ pt0
  iintro pt0
  ihave x2 := (to_any _ _) $$ x2
  iapply (snd2 A K 0 2 rfl c _ 11 (dev12 c) rfl sendS_2_0 recvS_2_0 (slice_at _ _ (off3_3 c)) rfl) $$ [S snd20 pt0 rrs0 x2]
  · isplitr; · iexact HC
    isplitl [S]; · iexact S
    isplitl [snd20]; · iexact snd20
    isplitl [pt0]; · iexact pt0
    isplitl [rrs0]; · iexact rrs0
    iexact x2
  iintro ⟨S, snt20⟩
  iapply (wp_ldb (Memref.whole cc0_stg4_0) c (inb_col (c)) (k0_off4_eq c) (Y := colB (c) (A.wo 1 c)) rfl) $$ wo1
  iintro wo1
  rw [blk1_eq A c]
  iapply (wp_fin c _); iapply Hk
  isplitl [S]; · iexact S
  isplitl [snt20]; · iexact snt20
  iexact wo1

/-- The first block of the second product received. -/
theorem step16 (c : Dev nD) (v379 : BitVec 32) (v410 : BitVec 32) {Q : (PUnit) → sProp 𝕄} :
    iprop(ctx (vals A) K ∗ St c 12 l ∗ Snt 2 1 c ∗ Rcv 2 1 c ∗ Snt 2 2 c)
      ⊢ iprop(((St c 12 (some (false, 2, 2) :: some (true, 2, 1) :: some (false, 2, 1) :: l) ∗ ownsTc c (partS (tgt c 1)) fullShare (part1 A c (tgt c 1)) ∗ ownsTc c (rsS 1) fullShare (part1 A (src c 1) c) ∗ any (tgt c 1) (xS c) ∗ ownsTc c (partS (tgt c 2)) fullShare (part1 A c (tgt c 2))) -∗ Q ⟨⟩) -∗ WP c (onBufs k0_part16 c v379 v410) Q) := by
  unfold onBufs; rw [k0_part16_eq_skeleton]; unfold k0_part16_skel
  simp only [semSignalWord, semWaitWord, Prog.lift, Prog.bind_op, Prog.bind_ret, Prog.pure_eq_ret, wp_deviceId]
  iintro ⟨#HC, S, snt21, rcv21, snt22⟩ Hk
  iapply (sent2 A K 1 c 12 sendS_2_1 (cr_a _)) $$ [S snt21]
  · isplitr; · iexact HC
    isplitl [S]; · iexact S
    iexact snt21
  iintro ⟨S, pt1⟩
  iapply (got2 A K 1 1 rfl c 12 recvS_2_1 (by decide) (cr_a _)) $$ [S rcv21]
  · isplitr; · iexact HC
    isplitl [S]; · iexact S
    iexact rcv21
  iintro ⟨S, rs1, rx1⟩
  iapply (sent2 A K 2 c 12 sendS_2_2 (cr_a _)) $$ [S snt22]
  · isplitr; · iexact HC
    isplitl [S]; · iexact S
    iexact snt22
  iintro ⟨S, pt2⟩
  iapply (wp_fin c _); iapply Hk
  isplitl [S]; · iexact S
  isplitl [pt1]; · iexact pt1
  isplitl [rs1]; · iexact rs1
  isplitl [rx1]; · iexact rx1
  iexact pt2

/-- The other blocks received, the second sum. -/
theorem step17 (c : Dev nD) (v441 : BitVec 32) {Q : (FVec F S64x256 .f32) → sProp 𝕄} :
    iprop(ctx (vals A) K ∗ St c 12 l ∗ Rcv 2 2 c ∗ Snt 2 0 c ∗ Rcv 2 0 c ∗ ownsTc c (rsS 1) fullShare (part1 A (src c 1) c))
      ⊢ iprop(((St c 12 (some (true, 2, 0) :: some (false, 2, 0) :: some (true, 2, 2) :: l) ∗ any (tgt c 0) (xS c) ∗ ownsTc c (partS (tgt c 0)) fullShare (part1 A c (tgt c 0)) ∗ any (tgt c 2) (xS c) ∗ ownsTc c (rsS 0) fullShare (part1 A (src c 0) c) ∗ ownsTc c (rsS 1) fullShare (part1 A (src c 1) c) ∗ ownsTc c (rsS 2) fullShare (part1 A (src c 2) c)) -∗ Q (sum1 A c)) -∗ WP c (onBufs k0_part17 c v441 (blk1 A c c)) Q) := by
  unfold onBufs; rw [k0_part17_eq_skeleton]; unfold k0_part17_skel
  simp only [semSignalWord, semWaitWord, Prog.lift, Prog.bind_op, Prog.bind_ret, Prog.pure_eq_ret, wp_deviceId]
  iintro ⟨#HC, S, rcv22, snt20, rcv20, rs1⟩ Hk
  iapply (got2 A K 2 0 rfl c 12 recvS_2_2 (by decide) (cr_a _)) $$ [S rcv22]
  · isplitr; · iexact HC
    isplitl [S]; · iexact S
    iexact rcv22
  iintro ⟨S, rs2, rx0⟩
  iapply (sent2 A K 0 c 12 sendS_2_0 (cr_a _)) $$ [S snt20]
  · isplitr; · iexact HC
    isplitl [S]; · iexact S
    iexact snt20
  iintro ⟨S, pt0⟩
  iapply (got2 A K 0 2 rfl c 12 recvS_2_0 (by decide) (cr_a _)) $$ [S rcv20]
  · isplitr; · iexact HC
    isplitl [S]; · iexact S
    iexact rcv20
  iintro ⟨S, rs0, rx2⟩
  iapply (ld_rs c 0 rfl) $$ rs0
  iintro rs0
  iapply (ld_rs c 1 rfl) $$ rs1
  iintro rs1
  iapply (ld_rs c 2 rfl) $$ rs2
  iintro rs2
  rw [sum1_eq A c]
  iapply (wp_fin c _); iapply Hk
  isplitl [S]; · iexact S
  isplitl [rx0]; · iexact rx0
  isplitl [pt0]; · iexact pt0
  isplitl [rx2]; · iexact rx2
  isplitl [rs0]; · iexact rs0
  isplitl [rs1]; · iexact rs1
  iexact rs2

/-- The second sum stored and first sent. -/
theorem step18 (c : Dev nD) (v2 : BitVec 32) {Q : (BitVec 32) → sProp 𝕄} :
    iprop(ctx (vals A) K ∗ St c 12 l ∗ ownsTc c redM (third 0) (red0 A c) ∗ ownsTc c redM (third 1) (red0 A c) ∗ ownsTc c redM (third 2) (red0 A c) ∗ Snd 3 1 c ∗ any (tgt c 1) (xS c))
      ⊢ iprop((∀ (v551 : BitVec 32), (St c 13 l ∗ ownsTc c redM (third 0) (red1 A c) ∗ ownsTc c redM (third 2) (red1 A c) ∗ Snt 3 1 c) -∗ Q (v551)) -∗ WP c (onBufs k0_part18 c v2 (sum1 A c)) Q) := by
  unfold onBufs; rw [k0_part18_eq_skeleton]; unfold k0_part18_skel
  simp only [semSignalWord, semWaitWord, Prog.lift, Prog.bind_op, Prog.bind_ret, Prog.pure_eq_ret, wp_deviceId]
  iintro ⟨#HC, S, th0, th1, th2, snd31, rx1⟩ Hk
  ihave red := (red_join A c) $$ [th0 th1 th2]
  · isplitl [th0]; · iexact th0
    isplitl [th1]; · iexact th1
    iexact th2
  iapply (wp_ldstw redM c (w := red1 A c) (by funext a; fin_cases a <;> rfl)) $$ red
  iintro red
  ihave red := (red_split _ c) $$ red
  icases red with ⟨th0, th1, th2⟩
  iapply (snd3 A K 1 c _ 12 (dev13 c) rfl sendS_3_1 recvS_3_1 rfl (slice_at _ _ (k0_off5_eq c))) $$ [S snd31 th1 rx1]
  · isplitr; · iexact HC
    isplitl [S]; · iexact S
    isplitl [snd31]; · iexact snd31
    isplitl [th1]; · iexact th1
    iexact rx1
  iintro ⟨S, snt31⟩
  iapply (wp_fin c _); iapply Hk
  isplitl [S]; · iexact S
  isplitl [th0]; · iexact th0
  isplitl [th2]; · iexact th2
  iexact snt31

/-- The second sum sent twice more; the own part of the third layer. -/
theorem step19 (c : Dev nD) (v2 : BitVec 32) (v551 : BitVec 32) {Q : (Σ' (v585 : FVec F S64x2048 .f32), BitVec 32) → sProp 𝕄} :
    iprop(ctx (vals A) K ∗ St c 13 l ∗ Snd 3 2 c ∗ ownsTc c redM (third 2) (red1 A c) ∗ any (tgt c 2) (xS c) ∗ Snd 3 0 c ∗ ownsTc c redM (third 0) (red1 A c) ∗ any (tgt c 0) (xS c) ∗ ownsTc c (Memref.whole cc0_stg5_0) fullShare (A.wi 2 c))
      ⊢ iprop((∀ (c1 : BitVec 32), (St c 15 l ∗ Snt 3 2 c ∗ Snt 3 0 c ∗ ownsTc c (Memref.whole cc0_stg5_0) fullShare (A.wi 2 c)) -∗ Q ⟨acc2_0 A c, c1⟩) -∗ WP c (onBufs k0_part19 c v2 (sum1 A c) v551) Q) := by
  unfold onBufs; rw [k0_part19_eq_skeleton]; unfold k0_part19_skel
  simp only [semSignalWord, semWaitWord, Prog.lift, Prog.bind_op, Prog.bind_ret, Prog.pure_eq_ret, wp_deviceId]
  iintro ⟨#HC, S, snd32, th2, rx2, snd30, th0, rx0, wi2⟩ Hk
  iapply (snd3 A K 2 c _ 13 (dev14 c) rfl sendS_3_2 recvS_3_2 rfl (slice_at _ _ (k0_off5_eq c))) $$ [S snd32 th2 rx2]
  · isplitr; · iexact HC
    isplitl [S]; · iexact S
    isplitl [snd32]; · iexact snd32
    isplitl [th2]; · iexact th2
    iexact rx2
  iintro ⟨S, snt32⟩
  iapply (snd3 A K 0 c _ 14 (dev15 c) rfl sendS_3_0 recvS_3_0 rfl (slice_at _ _ (k0_off5_eq c))) $$ [S snd30 th0 rx0]
  · isplitr; · iexact HC
    isplitl [S]; · iexact S
    isplitl [snd30]; · iexact snd30
    isplitl [th0]; · iexact th0
    iexact rx0
  iintro ⟨S, snt30⟩
  iapply (wp_ldb (Memref.whole cc0_stg5_0) c (inb_row (c)) (k0_off6_eq c) (Y := rowB (c) (A.wi 2 c)) rfl) $$ wi2
  iintro wi2
  rw [acc2_0_eq A c]
  iapply (wp_fin c _); iapply Hk
  isplitl [S]; · iexact S
  isplitl [snt32]; · iexact snt32
  isplitl [snt30]; · iexact snt30
  iexact wi2

/-- A second sum received. -/
theorem step20 (c : Dev nD) (v2 : BitVec 32) (c1 : BitVec 32) {Q : (Σ' (v613 : FVec F S64x2048 .f32) (v616 : BitVec 32) (v617 : BitVec 32) (v618 : BitVec 1), BitVec 1) → sProp 𝕄} :
    iprop(ctx (vals A) K ∗ St c 15 l ∗ Rcv 3 2 c ∗ ownsTc c (Memref.whole cc0_stg5_0) fullShare (A.wi 2 c))
      ⊢ iprop((∀ (v616 : BitVec 32) (v617 : BitVec 32) (v618 : BitVec 1) (v619 : BitVec 1), (St c 15 (some (true, 3, 2) :: l) ∗ ownsTc c (xS (src c 2)) fullShare (up (red1 A (src c 2))) ∗ ownsTc c (Memref.whole cc0_stg5_0) fullShare (A.wi 2 c)) -∗ Q ⟨acc2_1 A c, v616, v617, v618, v619⟩) -∗ WP c (onBufs k0_part20 c v2 (acc2_0 A c) c1) Q) := by
  unfold onBufs; rw [k0_part20_eq_skeleton]; unfold k0_part20_skel
  simp only [semSignalWord, semWaitWord, Prog.lift, Prog.bind_op, Prog.bind_ret, Prog.pure_eq_ret, wp_deviceId]
  iintro ⟨#HC, S, rcv32, wi2⟩ Hk
  iapply (got3 A K 2 c 15 recvS_3_2 (by decide) (cr_a _)) $$ [S rcv32]
  · isplitr; · iexact HC
    isplitl [S]; · iexact S
    iexact rcv32
  iintro ⟨S, x2⟩
  iapply (ld_x c (src c 2) (off8_1 c)) $$ x2
  iintro x2
  iapply (wp_ldb (Memref.whole cc0_stg5_0) c (inb_row (src c 2)) (off9_1 c) (Y := rowB (src c 2) (A.wi 2 c)) rfl) $$ wi2
  iintro wi2
  rw [acc2_1_eq A c]
  iapply (wp_fin c _); iapply Hk
  isplitl [S]; · iexact S
  isplitl [x2]; · iexact x2
  iexact wi2

/-- Another second sum received. -/
theorem step21 (c : Dev nD) (v2 : BitVec 32) (v616 : BitVec 32) (v617 : BitVec 32) (v618 : BitVec 1) (v619 : BitVec 1) {Q : (Σ' (v641 : FVec F S64x2048 .f32) (v652 : BitVec 32), BitVec 32) → sProp 𝕄} :
    iprop(ctx (vals A) K ∗ St c 15 l ∗ Rcv 3 0 c ∗ ownsTc c (Memref.whole cc0_stg5_0) fullShare (A.wi 2 c))
      ⊢ iprop((∀ (v652 : BitVec 32) (c1 : BitVec 32), (St c 15 (some (true, 3, 0) :: l) ∗ ownsTc c (xS (src c 0)) fullShare (up (red1 A (src c 0))) ∗ ownsTc c (Memref.whole cc0_stg5_0) fullShare (A.wi 2 c)) -∗ Q ⟨acc2_2 A c, v652, c1⟩) -∗ WP c (onBufs k0_part21 c v2 (acc2_1 A c) v616 v617 v618 v619) Q) := by
  unfold onBufs; rw [k0_part21_eq_skeleton]; unfold k0_part21_skel
  simp only [semSignalWord, semWaitWord, Prog.lift, Prog.bind_op, Prog.bind_ret, Prog.pure_eq_ret, wp_deviceId]
  iintro ⟨#HC, S, rcv30, wi2⟩ Hk
  iapply (got3 A K 0 c 15 recvS_3_0 (by decide) (cr_a _)) $$ [S rcv30]
  · isplitr; · iexact HC
    isplitl [S]; · iexact S
    iexact rcv30
  iintro ⟨S, x0⟩
  iapply (ld_x c (src c 0) (off8_3 c)) $$ x0
  iintro x0
  iapply (wp_ldb (Memref.whole cc0_stg5_0) c (inb_row (src c 0)) (off9_3 c) (Y := rowB (src c 0) (A.wi 2 c)) rfl) $$ wi2
  iintro wi2
  rw [acc2_2_eq A c]
  iapply (wp_fin c _); iapply Hk
  isplitl [S]; · iexact S
  isplitl [x0]; · iexact x0
  iexact wi2

/-- The third hidden layer. -/
theorem step22 (c : Dev nD) (v652 : BitVec 32) (c1 : BitVec 32) {Q : (FVec F S64x2048 .f32) → sProp 𝕄} :
    iprop(ctx (vals A) K ∗ St c 15 l ∗ Rcv 3 1 c ∗ ownsTc c (Memref.whole cc0_stg5_0) fullShare (A.wi 2 c) ∗ Snt 3 1 c ∗ Snt 3 2 c)
      ⊢ iprop(((St c 15 (some (false, 3, 2) :: some (false, 3, 1) :: some (true, 3, 1) :: l) ∗ ownsTc c (xS (src c 1)) fullShare (up (red1 A (src c 1))) ∗ ownsTc c (Memref.whole cc0_stg5_0) fullShare (A.wi 2 c) ∗ ownsTc c redM (third 1) (red1 A c) ∗ ownsTc c redM (third 2) (red1 A c)) -∗ Q (hid2 A c)) -∗ WP c (onBufs k0_part22 c (acc2_2 A c) v652 c1) Q) := by
  unfold onBufs; rw [k0_part22_eq_skeleton]; unfold k0_part22_skel
  simp only [semSignalWord, semWaitWord, Prog.lift, Prog.bind_op, Prog.bind_ret, Prog.pure_eq_ret, wp_deviceId]
  iintro ⟨#HC, S, rcv31, wi2, snt31, snt32⟩ Hk
  iapply (got3 A K 1 c 15 recvS_3_1 (by decide) (cr_a _)) $$ [S rcv31]
  · isplitr; · iexact HC
    isplitl [S]; · iexact S
    iexact rcv31
  iintro ⟨S, x1⟩
  iapply (ld_x c (src c 1) (off8_2 c)) $$ x1
  iintro x1
  iapply (wp_ldb (Memref.whole cc0_stg5_0) c (inb_row (src c 1)) (off9_2 c) (Y := rowB (src c 1) (A.wi 2 c)) rfl) $$ wi2
  iintro wi2
  iapply (sent3 A K 1 c 15 sendS_3_1 (cr_a _)) $$ [S snt31]
  · isplitr; · iexact HC
    isplitl [S]; · iexact S
    iexact snt31
  iintro ⟨S, th1⟩
  iapply (sent3 A K 2 c 15 sendS_3_2 (cr_a _)) $$ [S snt32]
  · isplitr; · iexact HC
    isplitl [S]; · iexact S
    iexact snt32
  iintro ⟨S, th2⟩
  rw [hid2_eq A c]
  iapply (wp_fin c _); iapply Hk
  isplitl [S]; · iexact S
  isplitl [x1]; · iexact x1
  isplitl [wi2]; · iexact wi2
  isplitl [th1]; · iexact th1
  iexact th2

end Parts

end Cert.MeshProof

end

end
-- ==== Proof.Parts3.lean ====
/-
# The body's last parts
-/
module

public import proofs.«01_k».proof.Proof.Pieces

@[expose] public section

noncomputable section

namespace Cert.MeshProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Parts
variable (A : Args F) (K : Dev nD × Cell → ℕ) {l : List Cell}

/-- The last product, its first rows sent. -/
theorem step23 (c : Dev nD) (v2 : BitVec 32) {Q : (Σ' (v702 : BitVec 32), BitVec 32) → sProp 𝕄} :
    iprop(ctx (vals A) K ∗ St c 15 l ∗ Snt 3 0 c ∗ ownsTc c (Memref.whole cc0_stg6_0) fullShare (A.wo 2 c) ∗ any c (Memref.whole cc0_scratch4) ∗ Snd 4 1 c ∗ any (tgt c 1) (rs2S 1))
      ⊢ iprop((∀ (v702 : BitVec 32) (c1 : BitVec 32), (St c 16 (some (false, 3, 0) :: l) ∗ ownsTc c redM (third 0) (red1 A c) ∗ ownsTc c (Memref.whole cc0_stg6_0) fullShare (A.wo 2 c) ∗ ownsTc c (p2S c) fullShare (last A c c) ∗ ownsTc c (p2S (tgt c 0)) fullShare (last A c (tgt c 0)) ∗ ownsTc c (p2S (tgt c 2)) fullShare (last A c (tgt c 2)) ∗ Snt 4 1 c) -∗ Q ⟨v702, c1⟩) -∗ WP c (onBufs k0_part23 c v2 (hid2 A c)) Q) := by
  unfold onBufs; rw [k0_part23_eq_skeleton]; unfold k0_part23_skel
  simp only [semSignalWord, semWaitWord, Prog.lift, Prog.bind_op, Prog.bind_ret, Prog.pure_eq_ret, wp_deviceId]
  iintro ⟨#HC, S, snt30, wo2, p2, snd41, rrb1⟩ Hk
  iapply (sent3 A K 0 c 15 sendS_3_0 (cr_a _)) $$ [S snt30]
  · isplitr; · iexact HC
    isplitl [S]; · iexact S
    iexact snt30
  iintro ⟨S, th0⟩
  iapply (wp_ldw (Memref.whole cc0_stg6_0) c (by funext a; fin_cases a <;> rfl)) $$ wo2
  iintro wo2
  iapply (wp_ldstw (Memref.whole cc0_scratch4) c (w := prod A c) (by funext a; fin_cases a <;> rfl)) $$ p2
  iintro p2
  ihave p2 := (p2_split A c) $$ p2
  icases p2 with ⟨qo, q0, q1, q2⟩
  iapply (snd4 A K 1 c _ 15 (dev16 c) rfl sendS_4_1 recvS_4_1 (slice_at _ _ (off10_2 c)) rfl) $$ [S snd41 q1 rrb1]
  · isplitr; · iexact HC
    isplitl [S]; · iexact S
    isplitl [snd41]; · iexact snd41
    isplitl [q1]; · iexact q1
    iexact rrb1
  iintro ⟨S, snt41⟩
  iapply (wp_fin c _); iapply Hk
  isplitl [S]; · iexact S
  isplitl [th0]; · iexact th0
  isplitl [wo2]; · iexact wo2
  isplitl [qo]; · iexact qo
  isplitl [q0]; · iexact q0
  isplitl [q2]; · iexact q2
  iexact snt41

/-- Its second rows sent. -/
theorem step24 (c : Dev nD) (v2 : BitVec 32) (c1 : BitVec 32) {Q : (Σ' (v723 : BitVec 32), BitVec 32) → sProp 𝕄} :
    iprop(ctx (vals A) K ∗ St c 16 l ∗ Snd 4 2 c ∗ ownsTc c (p2S (tgt c 2)) fullShare (last A c (tgt c 2)) ∗ any (tgt c 2) (rs2S 2))
      ⊢ iprop((∀ (v723 : BitVec 32) (v744 : BitVec 32), (St c 17 l ∗ Snt 4 2 c) -∗ Q ⟨v723, v744⟩) -∗ WP c (onBufs k0_part24 c v2 c1) Q) := by
  unfold onBufs; rw [k0_part24_eq_skeleton]; unfold k0_part24_skel
  simp only [semSignalWord, semWaitWord, Prog.lift, Prog.bind_op, Prog.bind_ret, Prog.pure_eq_ret, wp_deviceId]
  iintro ⟨#HC, S, snd42, q2, rrb2⟩ Hk
  iapply (snd4 A K 2 c _ 16 (dev17 c) rfl sendS_4_2 recvS_4_2 (slice_at _ _ (off10_1 c)) rfl) $$ [S snd42 q2 rrb2]
  · isplitr; · iexact HC
    isplitl [S]; · iexact S
    isplitl [snd42]; · iexact snd42
    isplitl [q2]; · iexact q2
    iexact rrb2
  iintro ⟨S, snt42⟩
  iapply (wp_fin c _); iapply Hk
  isplitl [S]; · iexact S
  iexact snt42

/-- Its third rows sent; the first rows received. -/
theorem step25 (c : Dev nD) (v702 : BitVec 32) (v744 : BitVec 32) {Q : (PUnit) → sProp 𝕄} :
    iprop(ctx (vals A) K ∗ St c 17 l ∗ Snd 4 0 c ∗ ownsTc c (p2S (tgt c 0)) fullShare (last A c (tgt c 0)) ∗ any (tgt c 0) (rs2S 0) ∗ Snt 4 1 c ∗ Rcv 4 1 c)
      ⊢ iprop(((St c 18 (some (true, 4, 1) :: some (false, 4, 1) :: l) ∗ Snt 4 0 c ∗ ownsTc c (p2S (tgt c 1)) fullShare (last A c (tgt c 1)) ∗ ownsTc c (rs2S 1) fullShare (up2 (last A (src c 1) c))) -∗ Q ⟨⟩) -∗ WP c (onBufs k0_part25 c v702 v744) Q) := by
  unfold onBufs; rw [k0_part25_eq_skeleton]; unfold k0_part25_skel
  simp only [semSignalWord, semWaitWord, Prog.lift, Prog.bind_op, Prog.bind_ret, Prog.pure_eq_ret, wp_deviceId]
  iintro ⟨#HC, S, snd40, q0, rrb0, snt41, rcv41⟩ Hk
  iapply (snd4 A K 0 c _ 17 (dev18 c) rfl sendS_4_0 recvS_4_0 (slice_at _ _ (off10_3 c)) rfl) $$ [S snd40 q0 rrb0]
  · isplitr; · iexact HC
    isplitl [S]; · iexact S
    isplitl [snd40]; · iexact snd40
    isplitl [q0]; · iexact q0
    iexact rrb0
  iintro ⟨S, snt40⟩
  iapply (sent4 A K 1 c 18 sendS_4_1 (cr_b _)) $$ [S snt41]
  · isplitr; · iexact HC
    isplitl [S]; · iexact S
    iexact snt41
  iintro ⟨S, q1⟩
  iapply (got4 A K 1 c 18 recvS_4_1 (by decide) (cr_b _)) $$ [S rcv41]
  · isplitr; · iexact HC
    isplitl [S]; · iexact S
    iexact rcv41
  iintro ⟨S, rb1⟩
  iapply (wp_fin c _); iapply Hk
  isplitl [S]; · iexact S
  isplitl [snt40]; · iexact snt40
  isplitl [q1]; · iexact q1
  iexact rb1

/-- The other rows received. -/
theorem step26 (c : Dev nD) (v2 : BitVec 32) (v723 : BitVec 32) (v744 : BitVec 32) {Q : (BitVec 32) → sProp 𝕄} :
    iprop(ctx (vals A) K ∗ St c 18 l ∗ Snt 4 2 c ∗ Rcv 4 2 c ∗ Snt 4 0 c ∗ Rcv 4 0 c)
      ⊢ iprop((∀ (v791 : BitVec 32), (St c 18 (some (true, 4, 0) :: some (false, 4, 0) :: some (true, 4, 2) :: some (false, 4, 2) :: l) ∗ ownsTc c (p2S (tgt c 2)) fullShare (last A c (tgt c 2)) ∗ ownsTc c (rs2S 2) fullShare (up2 (last A (src c 2) c)) ∗ ownsTc c (p2S (tgt c 0)) fullShare (last A c (tgt c 0)) ∗ ownsTc c (rs2S 0) fullShare (up2 (last A (src c 0) c))) -∗ Q (v791)) -∗ WP c (onBufs k0_part26 c v2 v723 v744) Q) := by
  unfold onBufs; rw [k0_part26_eq_skeleton]; unfold k0_part26_skel
  simp only [semSignalWord, semWaitWord, Prog.lift, Prog.bind_op, Prog.bind_ret, Prog.pure_eq_ret, wp_deviceId]
  iintro ⟨#HC, S, snt42, rcv42, snt40, rcv40⟩ Hk
  iapply (sent4 A K 2 c 18 sendS_4_2 (cr_b _)) $$ [S snt42]
  · isplitr; · iexact HC
    isplitl [S]; · iexact S
    iexact snt42
  iintro ⟨S, q2⟩
  iapply (got4 A K 2 c 18 recvS_4_2 (by decide) (cr_b _)) $$ [S rcv42]
  · isplitr; · iexact HC
    isplitl [S]; · iexact S
    iexact rcv42
  iintro ⟨S, rb2⟩
  iapply (sent4 A K 0 c 18 sendS_4_0 (cr_b _)) $$ [S snt40]
  · isplitr; · iexact HC
    isplitl [S]; · iexact S
    iexact snt40
  iintro ⟨S, q0⟩
  iapply (got4 A K 0 c 18 recvS_4_0 (by decide) (cr_b _)) $$ [S rcv40]
  · isplitr; · iexact HC
    isplitl [S]; · iexact S
    iexact rcv40
  iintro ⟨S, rb0⟩
  iapply (wp_fin c _); iapply Hk
  isplitl [S]; · iexact S
  isplitl [q2]; · iexact q2
  isplitl [rb2]; · iexact rb2
  isplitl [q0]; · iexact q0
  iexact rb0

end Parts

end Cert.MeshProof

end

end
-- ==== Proof.Body.lean ====
/-
# The body
-/
module

public import proofs.«01_k».proof.Proof.Parts1
public import proofs.«01_k».proof.Proof.Parts2
public import proofs.«01_k».proof.Proof.Parts3

@[expose] public section

noncomputable section

namespace Cert.MeshProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- One part after another. -/
theorem wp_seq {α β : Type} (c : Dev nD) {p : Prog (TpuEff nD τ sig (Elt F) Λ₀ .tc) α} {k : α → Prog (TpuEff nD τ sig (Elt F) Λ₀ .tc) β} {Q : β → sProp 𝕄} :
    WP c p (fun x => WP c (k x) Q) ⊢ WP c (p >>= k) Q := by
  unfold WP; rw [wp_bind]

section Run
variable (A : Args F) (K : Dev nD × Cell → ℕ)

/-- What device `c`'s body starts from, its protocol apart. -/
def Start (c : Dev nD) : sProp 𝕄 :=
  iprop(St c 0 [] ∗ ownsTc c (Memref.whole cc0_stg0_0) fullShare (A.x c) ∗ ownsTc c (Memref.whole cc0_stg1_0) fullShare (A.wi 0 c) ∗ ownsTc c (Memref.whole cc0_stg2_0) fullShare (A.wo 0 c) ∗ ownsTc c (Memref.whole cc0_stg3_0) fullShare (A.wi 1 c) ∗ ownsTc c (Memref.whole cc0_stg4_0) fullShare (A.wo 1 c) ∗ ownsTc c (Memref.whole cc0_stg5_0) fullShare (A.wi 2 c) ∗ ownsTc c (Memref.whole cc0_stg6_0) fullShare (A.wo 2 c) ∗ dutyTok ER (barCell (src c 0)) 0 0 ∗ dutyTok ER (barCell (src c 1)) 0 1 ∗ dutyTok ER (barCell (src c 2)) 0 2 ∗ cred (tallyAt (barCell c) () 3) ∗ atPos ER (barCell c) 0 ∅ 0 ∗ Snd 0 1 c ∗ Rcv 0 1 c ∗ Snd 0 2 c ∗ Rcv 0 2 c ∗ Snd 0 0 c ∗ Rcv 0 0 c ∗ Snd 1 1 c ∗ Rcv 1 1 c ∗ Snd 1 2 c ∗ Rcv 1 2 c ∗ Snd 1 0 c ∗ Rcv 1 0 c ∗ Snd 2 1 c ∗ Rcv 2 1 c ∗ Snd 2 2 c ∗ Rcv 2 2 c ∗ Snd 2 0 c ∗ Rcv 2 0 c ∗ Snd 3 1 c ∗ Rcv 3 1 c ∗ Snd 3 2 c ∗ Rcv 3 2 c ∗ Snd 3 0 c ∗ Rcv 3 0 c ∗ Snd 4 1 c ∗ Rcv 4 1 c ∗ Snd 4 2 c ∗ Rcv 4 2 c ∗ Snd 4 0 c ∗ Rcv 4 0 c ∗ any c (rsS 0) ∗ any c (xS (src c 0)) ∗ any c (rs2S 0) ∗ any c (partS (tgt c 0)) ∗ any c (rsS 1) ∗ any c (xS (src c 1)) ∗ any c (rs2S 1) ∗ any c (partS (tgt c 1)) ∗ any c (rsS 2) ∗ any c (xS (src c 2)) ∗ any c (rs2S 2) ∗ any c (partS (tgt c 2)) ∗ any c redM ∗ any c (Memref.whole cc0_scratch4) ∗ any c (Memref.whole cc0_stg7_0))

/-- What it ends with. -/
def Finish (c : Dev nD) : sProp 𝕄 :=
  iprop(St c 18 (some (true, 4, 0) :: some (false, 4, 0) :: some (true, 4, 2) :: some (false, 4, 2) :: some (true, 4, 1) :: some (false, 4, 1) :: some (false, 3, 0) :: some (false, 3, 2) :: some (false, 3, 1) :: some (true, 3, 1) :: some (true, 3, 0) :: some (true, 3, 2) :: some (true, 2, 0) :: some (false, 2, 0) :: some (true, 2, 2) :: some (false, 2, 2) :: some (true, 2, 1) :: some (false, 2, 1) :: some (false, 1, 0) :: some (false, 1, 2) :: some (false, 1, 1) :: some (true, 1, 1) :: some (true, 1, 0) :: some (true, 1, 2) :: some (true, 0, 0) :: some (false, 0, 0) :: some (true, 0, 2) :: some (false, 0, 2) :: some (true, 0, 1) :: some (false, 0, 1) :: none :: []) ∗ ownsTc c (Memref.whole cc0_stg0_0) fullShare (A.x c) ∗ ownsTc c (Memref.whole cc0_stg1_0) fullShare (A.wi 0 c) ∗ ownsTc c (Memref.whole cc0_stg2_0) fullShare (A.wo 0 c) ∗ ownsTc c (Memref.whole cc0_stg3_0) fullShare (A.wi 1 c) ∗ ownsTc c (Memref.whole cc0_stg4_0) fullShare (A.wo 1 c) ∗ ownsTc c (partS (tgt c 1)) fullShare (part1 A c (tgt c 1)) ∗ ownsTc c (partS (tgt c 2)) fullShare (part1 A c (tgt c 2)) ∗ ownsTc c (partS (tgt c 0)) fullShare (part1 A c (tgt c 0)) ∗ ownsTc c (rsS 0) fullShare (part1 A (src c 0) c) ∗ ownsTc c (rsS 1) fullShare (part1 A (src c 1) c) ∗ ownsTc c (rsS 2) fullShare (part1 A (src c 2) c) ∗ ownsTc c (xS (src c 2)) fullShare (up (red1 A (src c 2))) ∗ ownsTc c (xS (src c 0)) fullShare (up (red1 A (src c 0))) ∗ ownsTc c (xS (src c 1)) fullShare (up (red1 A (src c 1))) ∗ ownsTc c (Memref.whole cc0_stg5_0) fullShare (A.wi 2 c) ∗ ownsTc c redM (third 1) (red1 A c) ∗ ownsTc c redM (third 2) (red1 A c) ∗ ownsTc c redM (third 0) (red1 A c) ∗ ownsTc c (Memref.whole cc0_stg6_0) fullShare (A.wo 2 c) ∗ ownsTc c (p2S (tgt c 1)) fullShare (last A c (tgt c 1)) ∗ ownsTc c (p2S (tgt c 2)) fullShare (last A c (tgt c 2)) ∗ ownsTc c (p2S (tgt c 0)) fullShare (last A c (tgt c 0)) ∗ ownsTc c (p2S c) fullShare (last A c c) ∗ ownsTc c (rs2S 0) fullShare (up2 (last A (src c 0) c)) ∗ ownsTc c (rs2S 1) fullShare (up2 (last A (src c 1) c)) ∗ ownsTc c (rs2S 2) fullShare (up2 (last A (src c 2) c)) ∗ ownsTc c (Memref.whole cc0_stg7_0) fullShare (out A c))

/-- The body, part by part. -/
theorem body_run (c : Dev nD) {Q : PUnit → sProp 𝕄} :
    iprop(ctx (vals A) K ∗ Start A c) ⊢ iprop((Finish A c -∗ Q ⟨⟩) -∗ WP c (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7) Q) := by
  rw [cc0_body_eq_skeleton]; unfold cc0_body_skel
  unfold Start
  iintro ⟨#HC, S, X, wi0, wo0, wi1, wo1, wi2, wo2, tb0, tb1, tb2, cb, ab, snd01, rcv01, snd02, rcv02, snd00, rcv00, snd11, rcv11, snd12, rcv12, snd10, rcv10, snd21, rcv21, snd22, rcv22, snd20, rcv20, snd31, rcv31, snd32, rcv32, snd30, rcv30, snd41, rcv41, snd42, rcv42, snd40, rcv40, rs0, x0, rb0, pt0, rs1, x1, rb1, pt1, rs2, x2, rb2, pt2, red, p2, out⟩ Hk
  iapply (wp_seq c)
  iapply (step1 A K c) $$ [S tb0 rs0 x0 rb0 tb1 rs1 x1 rb1]
  · isplitr; · iexact HC
    isplitl [S]; · iexact S
    isplitl [tb0]; · iexact tb0
    isplitl [rs0]; · iexact rs0
    isplitl [x0]; · iexact x0
    isplitl [rb0]; · iexact rb0
    isplitl [tb1]; · iexact tb1
    isplitl [rs1]; · iexact rs1
    isplitl [x1]; · iexact x1
    iexact rb1
  iintro %v2 %v30 %v31 ⟨S⟩
  try dsimp only
  iapply (wp_seq c)
  iapply (step2 A K c _ _ _ _) $$ [S tb2 rs2 x2 rb2 cb ab X wi0]
  · isplitr; · iexact HC
    isplitl [S]; · iexact S
    isplitl [tb2]; · iexact tb2
    isplitl [rs2]; · iexact rs2
    isplitl [x2]; · iexact x2
    isplitl [rb2]; · iexact rb2
    isplitl [cb]; · iexact cb
    isplitl [ab]; · iexact ab
    isplitl [X]; · iexact X
    iexact wi0
  iintro %v63 ⟨S, rrs0, rx0, rrb0, rrs1, rx1, rrb1, rrs2, rx2, rrb2, X, wi0⟩
  try dsimp only
  iapply (wp_seq c)
  iapply (step3 A K c _ _) $$ [S wo0 pt1 snd01 rrs1]
  · isplitr; · iexact HC
    isplitl [S]; · iexact S
    isplitl [wo0]; · iexact wo0
    isplitl [pt1]; · iexact pt1
    isplitl [snd01]; · iexact snd01
    iexact rrs1
  iintro %v94 ⟨S, snt01, wo0⟩
  try dsimp only
  iapply (wp_seq c)
  iapply (step4 A K c _ _) $$ [S pt2 snd02 rrs2 wo0]
  · isplitr; · iexact HC
    isplitl [S]; · iexact S
    isplitl [pt2]; · iexact pt2
    isplitl [snd02]; · iexact snd02
    isplitl [rrs2]; · iexact rrs2
    iexact wo0
  iintro %v125 ⟨S, snt02, wo0⟩
  try dsimp only
  iapply (wp_seq c)
  iapply (step5 A K c _ _ _) $$ [S pt0 snd00 rrs0 wo0 snt01]
  · isplitr; · iexact HC
    isplitl [S]; · iexact S
    isplitl [pt0]; · iexact pt0
    isplitl [snd00]; · iexact snd00
    isplitl [rrs0]; · iexact rrs0
    isplitl [wo0]; · iexact wo0
    iexact snt01
  iintro %v158 %c0 ⟨S, snt00, wo0, pt1⟩
  try dsimp only
  iapply (wp_seq c)
  iapply (step6 A K c _ _ _) $$ [S rcv01 snt02 rcv02]
  · isplitr; · iexact HC
    isplitl [S]; · iexact S
    isplitl [rcv01]; · iexact rcv01
    isplitl [snt02]; · iexact snt02
    iexact rcv02
  iintro ⟨S, rs1, pt2, rs2⟩
  try dsimp only
  iapply (wp_seq c)
  iapply (step7 A K c _ _) $$ [S snt00 rcv00 rs1 rs2 red]
  · isplitr; · iexact HC
    isplitl [S]; · iexact S
    isplitl [snt00]; · iexact snt00
    isplitl [rcv00]; · iexact rcv00
    isplitl [rs1]; · iexact rs1
    isplitl [rs2]; · iexact rs2
    iexact red
  iintro %v208 %v209 %v210 ⟨S, pt0, rs0, rs1, rs2, th0, th1, th2⟩
  try dsimp only
  iapply (wp_seq c)
  iapply (step8 A K c _ _ _ _) $$ [S rs1 snd11 th1 rx1 rs0 snd12 th2 rx2]
  · isplitr; · iexact HC
    isplitl [S]; · iexact S
    isplitl [rs1]; · iexact rs1
    isplitl [snd11]; · iexact snd11
    isplitl [th1]; · iexact th1
    isplitl [rx1]; · iexact rx1
    isplitl [rs0]; · iexact rs0
    isplitl [snd12]; · iexact snd12
    isplitl [th2]; · iexact th2
    iexact rx2
  iintro ⟨S, snt11, snt12⟩
  try dsimp only
  iapply (wp_seq c)
  iapply (step9 A K c _) $$ [S rs2 snd10 th0 rx0 wi1]
  · isplitr; · iexact HC
    isplitl [S]; · iexact S
    isplitl [rs2]; · iexact rs2
    isplitl [snd10]; · iexact snd10
    isplitl [th0]; · iexact th0
    isplitl [rx0]; · iexact rx0
    iexact wi1
  iintro %v272 %v273 %v274 %v277 ⟨S, snt10, wi1⟩
  try dsimp only
  iapply (wp_seq c)
  iapply (step10 A K c _ _ _ _ _) $$ [S rcv12 wi1]
  · isplitr; · iexact HC
    isplitl [S]; · iexact S
    isplitl [rcv12]; · iexact rcv12
    iexact wi1
  iintro %v308 ⟨S, rrs0, x2, wi1⟩
  try dsimp only
  iapply (wp_seq c)
  iapply (step11 A K c _ _) $$ [S rcv10 wi1 rcv11]
  · isplitr; · iexact HC
    isplitl [S]; · iexact S
    isplitl [rcv10]; · iexact rcv10
    isplitl [wi1]; · iexact wi1
    iexact rcv11
  iintro %v336 ⟨S, rrs2, x0, wi1, rrs1, x1⟩
  try dsimp only
  iapply (wp_seq c)
  iapply (step12 A K c _ _) $$ [S wi1 snt11 snt12 snt10]
  · isplitr; · iexact HC
    isplitl [S]; · iexact S
    isplitl [wi1]; · iexact wi1
    isplitl [snt11]; · iexact snt11
    isplitl [snt12]; · iexact snt12
    iexact snt10
  iintro %v371 %v372 ⟨S, wi1, th1, th2, th0⟩
  try dsimp only
  iapply (wp_seq c)
  iapply (step13 A K c _ _ _) $$ [S wo1 pt1 x1 snd21 rrs1]
  · isplitr; · iexact HC
    isplitl [S]; · iexact S
    isplitl [wo1]; · iexact wo1
    isplitl [pt1]; · iexact pt1
    isplitl [x1]; · iexact x1
    isplitl [snd21]; · iexact snd21
    iexact rrs1
  iintro %v379 %v402 %v403 %v404 %v405 ⟨S, wo1, snt21⟩
  try dsimp only
  iapply (wp_seq c)
  iapply (step14 A K c _ _ _ _ _) $$ [S wo1 pt2 x0 snd22 rrs2]
  · isplitr; · iexact HC
    isplitl [S]; · iexact S
    isplitl [wo1]; · iexact wo1
    isplitl [pt2]; · iexact pt2
    isplitl [x0]; · iexact x0
    isplitl [snd22]; · iexact snd22
    iexact rrs2
  iintro %v410 %v433 %v434 %v439 ⟨S, wo1, snt22⟩
  try dsimp only
  iapply (wp_seq c)
  iapply (step15 A K c _ _ _ _) $$ [S wo1 pt0 x2 snd20 rrs0]
  · isplitr; · iexact HC
    isplitl [S]; · iexact S
    isplitl [wo1]; · iexact wo1
    isplitl [pt0]; · iexact pt0
    isplitl [x2]; · iexact x2
    isplitl [snd20]; · iexact snd20
    iexact rrs0
  iintro %v441 ⟨S, snt20, wo1⟩
  try dsimp only
  iapply (wp_seq c)
  iapply (step16 A K c _ _) $$ [S snt21 rcv21 snt22]
  · isplitr; · iexact HC
    isplitl [S]; · iexact S
    isplitl [snt21]; · iexact snt21
    isplitl [rcv21]; · iexact rcv21
    iexact snt22
  iintro ⟨S, pt1, rs1, rx1, pt2⟩
  try dsimp only
  iapply (wp_seq c)
  iapply (step17 A K c _) $$ [S rcv22 snt20 rcv20 rs1]
  · isplitr; · iexact HC
    isplitl [S]; · iexact S
    isplitl [rcv22]; · iexact rcv22
    isplitl [snt20]; · iexact snt20
    isplitl [rcv20]; · iexact rcv20
    iexact rs1
  iintro ⟨S, rx0, pt0, rx2, rs0, rs1, rs2⟩
  try dsimp only
  iapply (wp_seq c)
  iapply (step18 A K c _) $$ [S th0 th1 th2 snd31 rx1]
  · isplitr; · iexact HC
    isplitl [S]; · iexact S
    isplitl [th0]; · iexact th0
    isplitl [th1]; · iexact th1
    isplitl [th2]; · iexact th2
    isplitl [snd31]; · iexact snd31
    iexact rx1
  iintro %v551 ⟨S, th0, th2, snt31⟩
  try dsimp only
  iapply (wp_seq c)
  iapply (step19 A K c _ _) $$ [S snd32 th2 rx2 snd30 th0 rx0 wi2]
  · isplitr; · iexact HC
    isplitl [S]; · iexact S
    isplitl [snd32]; · iexact snd32
    isplitl [th2]; · iexact th2
    isplitl [rx2]; · iexact rx2
    isplitl [snd30]; · iexact snd30
    isplitl [th0]; · iexact th0
    isplitl [rx0]; · iexact rx0
    iexact wi2
  iintro %c1 ⟨S, snt32, snt30, wi2⟩
  try dsimp only
  iapply (wp_seq c)
  iapply (step20 A K c _ _) $$ [S rcv32 wi2]
  · isplitr; · iexact HC
    isplitl [S]; · iexact S
    isplitl [rcv32]; · iexact rcv32
    iexact wi2
  iintro %v616 %v617 %v618 %v619 ⟨S, x2, wi2⟩
  try dsimp only
  iapply (wp_seq c)
  iapply (step21 A K c _ _ _ _ _) $$ [S rcv30 wi2]
  · isplitr; · iexact HC
    isplitl [S]; · iexact S
    isplitl [rcv30]; · iexact rcv30
    iexact wi2
  iintro %v652 %c1 ⟨S, x0, wi2⟩
  try dsimp only
  iapply (wp_seq c)
  iapply (step22 A K c _ _) $$ [S rcv31 wi2 snt31 snt32]
  · isplitr; · iexact HC
    isplitl [S]; · iexact S
    isplitl [rcv31]; · iexact rcv31
    isplitl [wi2]; · iexact wi2
    isplitl [snt31]; · iexact snt31
    iexact snt32
  iintro ⟨S, x1, wi2, th1, th2⟩
  try dsimp only
  iapply (wp_seq c)
  iapply (step23 A K c _) $$ [S snt30 wo2 p2 snd41 rrb1]
  · isplitr; · iexact HC
    isplitl [S]; · iexact S
    isplitl [snt30]; · iexact snt30
    isplitl [wo2]; · iexact wo2
    isplitl [p2]; · iexact p2
    isplitl [snd41]; · iexact snd41
    iexact rrb1
  iintro %v702 %c1 ⟨S, th0, wo2, qo, q0, q2, snt41⟩
  try dsimp only
  iapply (wp_seq c)
  iapply (step24 A K c _ _) $$ [S snd42 q2 rrb2]
  · isplitr; · iexact HC
    isplitl [S]; · iexact S
    isplitl [snd42]; · iexact snd42
    isplitl [q2]; · iexact q2
    iexact rrb2
  iintro %v723 %v744 ⟨S, snt42⟩
  try dsimp only
  iapply (wp_seq c)
  iapply (step25 A K c _ _) $$ [S snd40 q0 rrb0 snt41 rcv41]
  · isplitr; · iexact HC
    isplitl [S]; · iexact S
    isplitl [snd40]; · iexact snd40
    isplitl [q0]; · iexact q0
    isplitl [rrb0]; · iexact rrb0
    isplitl [snt41]; · iexact snt41
    iexact rcv41
  iintro ⟨S, snt40, q1, rb1⟩
  try dsimp only
  iapply (wp_seq c)
  iapply (step26 A K c _ _ _) $$ [S snt42 rcv42 snt40 rcv40]
  · isplitr; · iexact HC
    isplitl [S]; · iexact S
    isplitl [snt42]; · iexact snt42
    isplitl [rcv42]; · iexact rcv42
    isplitl [snt40]; · iexact snt40
    iexact rcv40
  iintro %v791 ⟨S, q2, rb2, q0, rb0⟩
  try dsimp only
  simp only [Prog.lift, Prog.bind_op, Prog.bind_ret, Prog.pure_eq_ret]
  iapply (ld_p2 c c (k0_off11_eq c)) $$ qo
  iintro qo
  iapply (ld_rs2 c 0 rfl) $$ rb0
  iintro rb0
  iapply (ld_rs2 c 1 rfl) $$ rb1
  iintro rb1
  iapply (ld_rs2 c 2 rfl) $$ rb2
  iintro rb2
  iapply (wp_ldstw (Memref.whole cc0_stg7_0) c (w := out A c) (by funext a; fin_cases a <;> rfl)) $$ out
  iintro out
  iapply (wp_fin c _); iapply Hk; unfold Finish
  isplitl [S]; · iexact S
  isplitl [X]; · iexact X
  isplitl [wi0]; · iexact wi0
  isplitl [wo0]; · iexact wo0
  isplitl [wi1]; · iexact wi1
  isplitl [wo1]; · iexact wo1
  isplitl [pt1]; · iexact pt1
  isplitl [pt2]; · iexact pt2
  isplitl [pt0]; · iexact pt0
  isplitl [rs0]; · iexact rs0
  isplitl [rs1]; · iexact rs1
  isplitl [rs2]; · iexact rs2
  isplitl [x2]; · iexact x2
  isplitl [x0]; · iexact x0
  isplitl [x1]; · iexact x1
  isplitl [wi2]; · iexact wi2
  isplitl [th1]; · iexact th1
  isplitl [th2]; · iexact th2
  isplitl [th0]; · iexact th0
  isplitl [wo2]; · iexact wo2
  isplitl [q1]; · iexact q1
  isplitl [q2]; · iexact q2
  isplitl [q0]; · iexact q0
  isplitl [qo]; · iexact qo
  isplitl [rb0]; · iexact rb0
  isplitl [rb1]; · iexact rb1
  isplitl [rb2]; · iexact rb2
  iexact out

end Run

end Cert.MeshProof

end

end
-- ==== Proof.Launch.lean ====
/-
# The launch: the ghost state dealt to the devices, the body at the pipeline's one point, the run of the whole program
-/
module

public import proofs.«01_k».proof.Proof.Body
public import proofs.«01_k».proof.Proof.Gen.KernelIdeal.Frame

@[expose] public section

noncomputable section

namespace Cert.MeshProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The cells of one device -/

/-- The cells other than the barrier: whether it is a receive cell, the exchange, the slot. -/
abbrev Own : Type := Bool × Fin 5 × Fin 3
/-- The semaphore of such a cell. -/
abbrev osem (x : Own) : SemLoc sig := csem (some x)

/-- These are the kernel's own semaphores, without repetition. -/
theorem ownSemFacts : Pipeline.OwnSemFacts cfg0.spec osem := by decide +kernel

/-- A device's cells are its barrier cell and its own ones; -/
theorem cells_opt (Φ : Cell → sProp 𝕄) : bigSep Finset.univ Φ = iprop(Φ none ∗ bigSep Finset.univ fun x : Own => Φ (some x)) := by
  rw [bigSep_univ_equiv ((Equiv.sumComm PUnit.{1} Own).trans (Equiv.optionEquivSumPUnit.{0} Own).symm), bigSep_univ_sum]
  rw [bigSep_univ_eq_bigSepL [PUnit.unit.{1}] (by decide) (by decide)]; rfl
/-- its own ones are the send cells and the receive cells. -/
theorem own_two (Φ : Own → sProp 𝕄) : bigSep Finset.univ Φ
    = iprop((bigSep Finset.univ fun y : Fin 5 × Fin 3 => Φ (false, y)) ∗ bigSep Finset.univ fun y : Fin 5 × Fin 3 => Φ (true, y)) := by
  rw [bigSep_univ_prod, bigSep_univ_eq_bigSepL [false, true] (by decide) (by decide)]; rfl

/-- Closed cells in a list without repetition are the cells of the list. -/
theorem zer_list (c : Dev nD) : ∀ l : List Cell, l.Nodup → (Zer c l : sProp 𝕄) = bigSep l.toFinset fun k => semVal (kcell (c, k)) 0
  | [], _ => rfl
  | k :: l, h => by
    rw [Zer_cons, List.toFinset_cons, BI.bigSep_insert (fun hm => (List.nodup_cons.mp h).1 (List.mem_toFinset.mp hm)), zer_list c l (List.nodup_cons.mp h).2]; rfl

/-- All of a device's counters at zero are its cells' counters at zero. -/
theorem ownSems0_eq (c : Dev nD) : iprop(Pipeline.ownSems0 (Ix := Unit) (Name := ℕ) (U := UU) (Lvl := ℕ) (Val := Elt F) (τ := τ) osem c ∗ unscopedSems0 c)
    ⊣⊢ (bigSep Finset.univ fun k : Cell => semVal (kcell (c, k)) 0 : sProp 𝕄) := by
  have h : (unscopedSems0 c : sProp 𝕄) = semVal (barCell c) 0 := by
    unfold unscopedSems0; rw [bigSep_eq_bigSepL_of_eq [SemLoc.reg barS] (by decide +kernel) (by decide)]; rfl
  rw [cells_opt, h]
  unfold Pipeline.ownSems0
  constructor
  · iintro ⟨H1, H2⟩
    isplitl [H2]; · iexact H2
    iexact H1
  · iintro ⟨H1, H2⟩
    isplitl [H2]; · iexact H2
    iexact H1

/-- Different cells of the devices are different semaphores. -/
theorem kcell_injective : Function.Injective (kcell : Dev nD × Cell → GSem nD τ sig) := by
  rintro ⟨c, k⟩ ⟨c', k'⟩ h
  have h1 : c = c' := congrArg (fun g : GSem nD τ sig => g.1.1) h
  have h2 : csem k = csem k' := congrArg Prod.snd h
  rw [h1, csem_injective h2]
/-- The cells of all devices. -/
def ringCells : Finset (GSem nD τ sig) := Finset.univ.map ⟨kcell, kcell_injective⟩

/-- The duties of one device's cells: the barrier's three and one of every other cell. -/
abbrev Dty : Type := Fin 3 ⊕ Own
/-- The token of a duty of a device's cell. -/
def tokOf : Dev nD × Dty → GSem nD τ sig × ℕ × Fin 3
  | (c, .inl s) => (barCell c, 0, s)
  | (c, .inr x) => (kcell (c, some x), 0, 0)
/-- Different duties have different tokens. -/
theorem tokOf_injective : Function.Injective tokOf := by
  rintro ⟨c, s | x⟩ ⟨c', s' | x'⟩ h
  · have h1 := kcell_injective (a₁ := (c, none)) (a₂ := (c', none)) (congrArg Prod.fst h)
    have h2 : s = s' := congrArg (fun y : GSem nD τ sig × ℕ × Fin 3 => y.2.2) h
    obtain rfl : c = c' := congrArg Prod.fst h1
    rw [h2]
  · exact absurd (congrArg Prod.snd (kcell_injective (a₁ := (c, none)) (a₂ := (c', some x')) (congrArg Prod.fst h))) (fun h' => by cases h')
  · exact absurd (congrArg Prod.snd (kcell_injective (a₁ := (c, some x)) (a₂ := (c', none)) (congrArg Prod.fst h))) (fun h' => by cases h')
  · have h1 := kcell_injective (a₁ := (c, some x)) (a₂ := (c', some x')) (congrArg Prod.fst h)
    obtain rfl : c = c' := congrArg Prod.fst h1
    rw [Option.some.inj (congrArg Prod.snd h1)]
/-- The tokens of all duties. -/
def ringToks : Finset (GSem nD τ sig × ℕ × Fin 3) := Finset.univ.map ⟨tokOf, tokOf_injective⟩

/-- The ghost state the launch starts from. -/
def u₀ : UU :=
  (initOf (Pipeline.cells cfgs cellOf_inj) (Pipeline.launchToks cfgs cellOf_inj), initOf ringCells ringToks)

/-- The duty tokens of device `c`'s own cells, -/
def toks (c : Dev nD) : sProp 𝕄 :=
  iprop((bigSep Finset.univ fun s : Fin 3 => dutyTok ER (barCell c) 0 s)
    ∗ (bigSep Finset.univ fun y : Fin 5 × Fin 3 => dutyTok ER (sendCell y.1 y.2 c) 0 0)
    ∗ bigSep Finset.univ fun y : Fin 5 × Fin 3 => dutyTok ER (recvCell y.1 y.2 c) 0 0)
/-- and the tokens of the duties it pays. -/
def payToks (c : Dev nD) : sProp 𝕄 :=
  iprop((bigSep Finset.univ fun s : Fin 3 => dutyTok ER (barCell (src c s)) 0 s)
    ∗ (bigSep Finset.univ fun y : Fin 5 × Fin 3 => dutyTok ER (sendCell y.1 y.2 c) 0 0)
    ∗ bigSep Finset.univ fun y : Fin 5 × Fin 3 => dutyTok ER (recvCell y.1 y.2 (tgt c y.2)) 0 0)

/-- The devices renumbered by a slot: where a device's barrier tokens are used, and where its receive tokens are. -/
def dealB : Dev nD × Fin 3 ≃ Dev nD × Fin 3 :=
  ⟨fun x => (src x.1 x.2, x.2), fun x => (tgt x.1 x.2, x.2), fun x => Prod.ext (tgt_src x.1 x.2) rfl, fun x => Prod.ext (src_tgt x.1 x.2) rfl⟩
/-- The devices renumbered by a slot, for the receive tokens. -/
def dealR : Dev nD × Fin 5 × Fin 3 ≃ Dev nD × Fin 5 × Fin 3 :=
  ⟨fun x => (tgt x.1 x.2.2, x.2), fun x => (src x.1 x.2.2, x.2), fun x => Prod.ext (src_tgt x.1 x.2.2) rfl, fun x => Prod.ext (tgt_src x.1 x.2.2) rfl⟩

/-- The tokens go round to the devices that pay with them. -/
theorem toks_around : (bigSep Finset.univ fun c : Dev nD => (toks c : sProp 𝕄)) = bigSep Finset.univ fun c : Dev nD => payToks c := by
  unfold toks payToks
  rw [bigSep_sep', bigSep_sep', bigSep_sep', bigSep_sep',
    ← bigSep_univ_prod (fun x : Dev nD × Fin 3 => (dutyTok ER (barCell x.1) 0 x.2 : sProp 𝕄)),
    ← bigSep_univ_prod (fun x : Dev nD × Fin 3 => (dutyTok ER (barCell (src x.1 x.2)) 0 x.2 : sProp 𝕄)),
    ← bigSep_univ_prod (fun x : Dev nD × Fin 5 × Fin 3 => (dutyTok ER (recvCell x.2.1 x.2.2 x.1) 0 0 : sProp 𝕄)),
    ← bigSep_univ_prod (fun x : Dev nD × Fin 5 × Fin 3 => (dutyTok ER (recvCell x.2.1 x.2.2 (tgt x.1 x.2.2)) 0 0 : sProp 𝕄)),
    bigSep_univ_equiv dealB (fun x : Dev nD × Fin 3 => (dutyTok ER (barCell x.1) 0 x.2 : sProp 𝕄)),
    bigSep_univ_equiv dealR (fun x : Dev nD × Fin 5 × Fin 3 => (dutyTok ER (recvCell x.2.1 x.2.2 x.1) 0 0 : sProp 𝕄))]
  rfl

section Ghost
variable (V : Vals F)

/-- What the launch deals device `c`; -/
def G (c : Dev nD) : sProp 𝕄 :=
  iprop((bigSep Finset.univ fun k : Cell => roundState ER (sched V) (kcell (c, k)) 0)
    ∗ (bigSep Finset.univ fun k : Cell => iprop(atPos ER (kcell (c, k)) 0 ∅ 0 ∗ reached ER (kcell (c, k)) 0)) ∗ toks c)
/-- what a device keeps for itself; -/
def linear (c : Dev nD) : sProp 𝕄 := iprop((bigSep Finset.univ fun k : Cell => atPos ER (kcell (c, k)) 0 ∅ 0) ∗ payToks c)
/-- what the devices make of it together. -/
def G' (c : Dev nD) : sProp 𝕄 := iprop((∃ K, records V K) ∗ linear c)

/-- The rounds' ghost state gives every device its deal. -/
theorem fund_ring : BI.own (ER (initOf ringCells ringToks)) ⊢ (|==> bigSep Finset.univ (G V) : sProp 𝕄) := by
  have hX (Φ : GSem nD τ sig → sProp 𝕄) : bigSep ringCells Φ = bigSep Finset.univ fun c : Dev nD => bigSep Finset.univ fun k : Cell => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum, own_two]; rfl
  iintro HX
  imod (Rounds.fund ER (sched V) ringCells ringToks) $$ HX with ⟨Hst, Hr, Hat, Htok⟩
  imodintro
  ihave Hst' := (Entails.of_eq (hX fun g => roundState ER (sched V) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- A device turns its counters and its deal into the invariants of its cells. -/
theorem core_alloc (c : Dev nD) :
    iprop(Pipeline.ownSems0 (Ix := Unit) (Name := ℕ) (U := UU) (Lvl := ℕ) (Val := Elt F) (τ := τ) osem c ∗ unscopedSems0 c ∗ G V c)
      ⊢ |={Set.univ}=> iprop((bigSep Finset.univ fun k : Cell => iprop(∃ κ : ℕ, cellInv ER (sched V) κ (kcell (c, k))))
          ∗ (bigSep Finset.univ fun k : Cell => iprop(atPos ER (kcell (c, k)) 0 ∅ 0 ∗ reached ER (kcell (c, k)) 0)) ∗ toks c) := by
  unfold G
  iintro ⟨Hos, Hus, Hst, Hat, Htok⟩
  ihave Hv := (ownSems0_eq (F := F) c).1 $$ [Hos Hus]
  · isplitl [Hos] <;> iassumption
  imod (show iprop((bigSep Finset.univ fun k : Cell => semVal (kcell (c, k)) 0) ∗ bigSep Finset.univ fun k : Cell => roundState ER (sched V) (kcell (c, k)) 0)
      ⊢ (|={Set.univ}=> bigSep Finset.univ fun k : Cell => iprop(∃ κ : ℕ, cellInv ER (sched V) κ (kcell (c, k))) : sProp 𝕄) from by
        rw [← bigSep_sep']
        exact BI.Entails.trans (bigSep_mono fun k _ => BI.Entails.trans (Rounds.body_intro ER (sched V) (kcell (c, k))) inv_alloc) (bigSep_fupd _ _)) $$ [Hv Hst] with Hinv
  · isplitl [Hv] <;> iassumption
  imodintro
  isplitl [Hinv]; · iexact Hinv
  isplitl [Hat]; · iexact Hat
  iexact Htok

/-- All invariants, collected under one assignment of names and shared with every device. -/
theorem regroup :
    (bigSep Finset.univ fun c : Dev nD => iprop((bigSep Finset.univ fun k : Cell => iprop(∃ κ : ℕ, cellInv ER (sched V) κ (kcell (c, k))))
          ∗ (bigSep Finset.univ fun k : Cell => iprop(atPos ER (kcell (c, k)) 0 ∅ 0 ∗ reached ER (kcell (c, k)) 0)) ∗ toks c) : sProp 𝕄)
      ⊢ bigSep Finset.univ (G' V) := by
  rw [bigSep_sep', bigSep_sep', ← bigSep_univ_prod (fun ck : Dev nD × Cell => iprop(∃ κ : ℕ, cellInv ER (sched V) κ (kcell ck))),
    bigSep_congr (s := Finset.univ) (fun (c : Dev nD) _ => bigSep_sep' Finset.univ (fun k : Cell => (atPos ER (kcell (c, k)) 0 ∅ 0 : sProp 𝕄)) (fun k => reached ER (kcell (c, k)) 0)),
    bigSep_sep', ← bigSep_univ_prod (fun ck : Dev nD × Cell => (reached ER (kcell ck) 0 : sProp 𝕄)), toks_around]
  unfold G' linear
  rw [bigSep_sep', bigSep_sep']
  iintro ⟨HI, ⟨Hat, #HR⟩, Htok⟩
  ihave HK := (BI.bigSep_exists_pi Finset.univ (fun (ck : Dev nD × Cell) (κ : ℕ) => (cellInv ER (sched V) κ (kcell ck) : sProp 𝕄))) $$ HI
  icases HK with ⟨%K, #HI⟩
  isplitr
  · iapply (BI.bigSep_intro_persistent (R := records V K) (S := Finset.univ) (Φ := fun _ : Dev nD => iprop(∃ K, records V K))
      fun c _ => by iintro H; iexists K; iexact H)
    unfold records
    isplitl; · iexact HI
    iexact HR
  isplitl [Hat]; · iexact Hat
  iexact Htok

/-- The devices' allocation of all invariants, at once. -/
theorem glob : (bigSep Finset.univ fun c => iprop(Pipeline.ownSems0 (Ix := Unit) (Name := ℕ) (U := UU) (Lvl := ℕ) (Val := Elt F) (τ := τ) osem c ∗ unscopedSems0 c ∗ G V c) : sProp 𝕄)
    ⊢ |={Set.univ}=> bigSep Finset.univ (G' V) :=
  BI.Entails.trans (BI.Entails.trans (bigSep_mono fun c _ => core_alloc V c) (bigSep_fupd _ _)) (BI.fupd_mono (regroup V))

end Ghost

/-! ## The launch credit -/

/-- A list of payments in one cell at the index: the sum of the amounts that go there. -/
theorem tal_apply (d : Dev nD) (g : GSem nD τ sig) : ∀ l : List Pay, tal d l g () = (l.map fun x => if g = pcell d x then pamt x else 0).sum
  | [] => rfl
  | x :: l => by
    unfold tal
    rw [Pi.add_apply, Finsupp.add_apply, tallyAt_apply, tal_apply d g l, List.map_cons, List.sum_cons, Nat.add_comm]
    congr 1
    by_cases h : g = pcell d x
    · rw [if_pos ⟨h, rfl⟩, if_pos h]
    · rw [if_neg (fun h' => h h'.1), if_neg h]

/-- A sum over devices of sums over a list is the sum over the list of the sums over devices. -/
theorem sum_list (g : GSem nD τ sig) : ∀ l : List Pay,
    (∑ d : Dev nD, (l.map fun x => if g = pcell d x then pamt x else 0).sum) = (l.map fun x => ∑ d : Dev nD, if g = pcell d x then pamt x else 0).sum
  | [] => by simp
  | x :: l => by simp only [List.map_cons, List.sum_cons, Finset.sum_add_distrib, sum_list g l]

/-- The devices' payments of one kind to one cell. -/
theorem pay_bar (c : Dev nD) (x : Pay) : (∑ d : Dev nD, if barCell c = pcell d x then pamt x else 0) = if x.isLeft then 1 else 0 := by
  rcases x with s | ⟨p, s⟩
  · rw [Finset.sum_eq_single (tgt c s)]
    · rw [if_pos (by show barCell c = barCell (src (tgt c s) s); rw [src_tgt])]; rfl
    · intro d _ hd
      refine if_neg fun h => hd ?_
      have := congrArg Prod.fst (kcell_injective (a₁ := (c, none)) (a₂ := (src d s, none)) h)
      rw [show c = src d s from this, tgt_src]
    · exact fun h => absurd (Finset.mem_univ _) h
  · exact Finset.sum_eq_zero fun d _ => if_neg fun h =>
      absurd (congrArg Prod.snd (kcell_injective (a₁ := (c, none)) (a₂ := (tgt d s, some (true, p, s))) h)) (fun h' => by cases h')
/-- The devices' payments of one kind to one receive cell. -/
theorem pay_recv (c : Dev nD) (p : Fin 5) (s : Fin 3) (x : Pay) :
    (∑ d : Dev nD, if recvCell p s c = pcell d x then pamt x else 0) = if x = .inr (p, s) then N else 0 := by
  rcases x with s' | ⟨p', s'⟩
  · exact Finset.sum_eq_zero fun d _ => if_neg fun h =>
      absurd (congrArg Prod.snd (kcell_injective (a₁ := (c, some (true, p, s))) (a₂ := (src d s', none)) h)) (fun h' => by cases h')
  · by_cases hx : (Sum.inr (p', s') : Pay) = .inr (p, s)
    · rw [if_pos hx]
      cases hx
      rw [Finset.sum_eq_single (src c s)]
      · rw [if_pos (by show recvCell p s c = recvCell p s (tgt (src c s) s); rw [tgt_src])]; rfl
      · intro d _ hd
        refine if_neg fun h => hd ?_
        have := congrArg Prod.fst (kcell_injective (a₁ := (c, some (true, p, s))) (a₂ := (tgt d s, some (true, p, s))) h)
        rw [show c = tgt d s from this, src_tgt]
      · exact fun h => absurd (Finset.mem_univ _) h
    · rw [if_neg hx]
      refine Finset.sum_eq_zero fun d _ => if_neg fun h => hx ?_
      have h1 := congrArg Prod.snd (kcell_injective (a₁ := (c, some (true, p, s))) (a₂ := (tgt d s', some (true, p', s'))) h)
      have h2 : (true, p, s) = (true, p', s') := Option.some.inj h1
      have h3 : p = p' := congrArg (fun y : Bool × Fin 5 × Fin 3 => y.2.1) h2
      have h4 : s = s' := congrArg (fun y : Bool × Fin 5 × Fin 3 => y.2.2) h2
      rw [h3, h4]

/-- Each message occurs once among the payments. -/
theorem pays_one (n : ℕ) (p : Fin 5) (s : Fin 3) : (pays.map fun x => if x = .inr (p, s) then n else 0).sum = n := by
  fin_cases p <;> fin_cases s <;> simp [pays]

/-- All devices together owe a barrier cell three units, -/
theorem launch_bar (c : Dev nD) :
    tallyOn (barCell c) (launchCredit (Pipeline.owing fun d => ow d 0) 0 (barCell c)) = (tallyAt (barCell c) () 3 : CellTallies nD τ sig Unit) := by
  unfold tallyAt; refine congrArg _ (Finsupp.ext fun u => ?_); cases u
  rw [Pipeline.launchCredit_owing, Finsupp.single_eq_same]
  refine (Finset.sum_congr rfl fun d _ => tal_apply d (barCell c) (pays.drop 0)).trans ?_
  rw [sum_list]
  simp only [pay_bar]; decide
/-- and a receive cell one message's credit. -/
theorem launch_recv (c : Dev nD) (p : Fin 5) (s : Fin 3) :
    tallyOn (recvCell p s c) (launchCredit (Pipeline.owing fun d => ow d 0) 0 (recvCell p s c)) = (tallyAt (recvCell p s c) () N : CellTallies nD τ sig Unit) := by
  unfold tallyAt; refine congrArg _ (Finsupp.ext fun u => ?_); cases u
  rw [Pipeline.launchCredit_owing, Finsupp.single_eq_same]
  refine (Finset.sum_congr rfl fun d _ => tal_apply d (recvCell p s c) (pays.drop 0)).trans ?_
  rw [sum_list]
  simp only [pay_recv]; exact pays_one N p s

/-- A device's credit at the launch: three units on its barrier cell and a message on each receive cell. -/
def creds (c : Dev nD) : sProp 𝕄 :=
  iprop(cred (tallyAt (barCell c) () 3) ∗ bigSep Finset.univ fun y : Fin 5 × Fin 3 => cred (tallyAt (recvCell y.1 y.2 c) () N))
/-- The launch credit of a device is its credit on these cells. -/
theorem creds_intro (c : Dev nD) : (Pipeline.launchCred (fun d => ow d 0) c : sProp 𝕄) ⊢ creds c := by
  have h : (bigSep Finset.univ fun k : Cell => (cred (tallyOn (kcell (c, k)) (launchCredit (Pipeline.owing fun d => ow d 0) 0 (kcell (c, k)))) : sProp 𝕄)) ⊢ creds c := by
    rw [cells_opt, own_two]
    unfold creds
    iintro ⟨H1, -, H2⟩
    isplitl [H1]
    · iapply (Entails.of_eq (congrArg cred (launch_bar c))); iexact H1
    · iapply (Entails.of_eq (bigSep_congr (s := Finset.univ) fun (y : Fin 5 × Fin 3) _ => congrArg cred (launch_recv c y.1 y.2))); iexact H2
  unfold Pipeline.launchCred
  refine BI.Entails.trans (BI.bigSep_subset (Finset.subset_univ (Finset.univ.map ⟨csem, csem_injective⟩))) ?_
  rw [bigSep_map]; exact h

/-! ## What the body starts from and ends with -/

/-- The messages' ghost state, message by message. -/
theorem msgs (c : Dev nD) : iprop(linear c ∗ creds c)
    ⊢ (iprop((dutyTok ER (barCell (src c 0)) 0 0 ∗ dutyTok ER (barCell (src c 1)) 0 1 ∗ dutyTok ER (barCell (src c 2)) 0 2)
      ∗ cred (tallyAt (barCell c) () 3) ∗ atPos ER (barCell c) 0 ∅ 0
      ∗ bigSep Finset.univ fun y : Fin 5 × Fin 3 => iprop(Snd y.1 y.2 c ∗ Rcv y.1 y.2 c)) : sProp 𝕄) := by
  unfold linear creds payToks Snd Rcv
  rw [cells_opt, own_two, three]
  simp only [bigSep_sep']
  iintro ⟨⟨⟨HaB, HaS, HaV⟩, HtB, HtS, HtV⟩, HcB, HcV⟩
  isplitl [HtB]; · iexact HtB
  isplitl [HcB]; · iexact HcB
  isplitl [HaB]; · iexact HaB
  isplitl [HtS HtV HaS]
  · isplitl [HtS]; · iexact HtS
    isplitl [HtV]; · iexact HtV
    iexact HaS
  isplitl [HcV]; · iexact HcV
  iexact HaV

/-- One summand per message, in program order. -/
theorem msgs_list (Φ : Fin 5 × Fin 3 → sProp 𝕄) : bigSep Finset.univ Φ
    = iprop(Φ (0, 1) ∗ Φ (0, 2) ∗ Φ (0, 0) ∗ Φ (1, 1) ∗ Φ (1, 2) ∗ Φ (1, 0) ∗ Φ (2, 1) ∗ Φ (2, 2) ∗ Φ (2, 0) ∗ Φ (3, 1) ∗ Φ (3, 2) ∗ Φ (3, 0) ∗ Φ (4, 1) ∗ Φ (4, 2) ∗ Φ (4, 0)) :=
  bigSep_univ_eq_bigSepL [(0, 1), (0, 2), (0, 0), (1, 1), (1, 2), (1, 0), (2, 1), (2, 2), (2, 0), (3, 1), (3, 2), (3, 0), (4, 1), (4, 2), (4, 0)] (by decide) (by decide) Φ

/-- The kernel's six scratch buffers, each at some contents. -/
def scr (c : Dev nD) : sProp 𝕄 :=
  iprop(any c (Memref.whole cc0_scratch0) ∗ any c (Memref.whole cc0_scratch1) ∗ any c redM ∗ any c (Memref.whole cc0_scratch3)
    ∗ any c (Memref.whole cc0_scratch4) ∗ any c (Memref.whole cc0_scratch5))
/-- The scratch buffers the launch hands over are the six. -/
theorem scr_eq (c : Dev nD) : (Pipeline.scopedRest (Ix := Unit) (Name := ℕ) (U := UU) (Lvl := ℕ) (Val := Elt F) cfg0.spec c : sProp 𝕄) ⊣⊢ scr c := by
  rw [scopedRest0_eq]; unfold scr
  exact sep_congr (any_whole c cc0_scratch0).symm (sep_congr (any_whole c cc0_scratch1).symm (sep_congr (any_whole c cc0_scratch2).symm
    (sep_congr (any_whole c cc0_scratch3).symm (sep_congr (any_whole c cc0_scratch4).symm (any_whole c cc0_scratch5).symm))))

section Ends
variable (A : Args F)

/-- The three thirds of the second sum's buffer make the buffer. -/
theorem red1_join (c : Dev nD) :
    iprop(ownsTc c redM (third 0) (red1 A c) ∗ ownsTc c redM (third 1) (red1 A c) ∗ ownsTc c redM (third 2) (red1 A c)) ⊢ any c redM :=
  BI.Entails.trans (ownsSat_thirds (c : Thread nD τ) redM fullShare (· = red1 A c)).2 (to_any redM _)

/-- The windows' staging buffers before the body, -/
def stgIn (c : Dev nD) : sProp 𝕄 :=
  iprop(ownsTc c (Memref.whole cc0_stg0_0) fullShare (A.x c) ∗ ownsTc c (Memref.whole cc0_stg1_0) fullShare (A.wi 0 c)
    ∗ ownsTc c (Memref.whole cc0_stg2_0) fullShare (A.wo 0 c) ∗ ownsTc c (Memref.whole cc0_stg3_0) fullShare (A.wi 1 c)
    ∗ ownsTc c (Memref.whole cc0_stg4_0) fullShare (A.wo 1 c) ∗ ownsTc c (Memref.whole cc0_stg5_0) fullShare (A.wi 2 c)
    ∗ ownsTc c (Memref.whole cc0_stg6_0) fullShare (A.wo 2 c) ∗ any c (Memref.whole cc0_stg7_0))
/-- and after it. -/
def stgOut (c : Dev nD) : sProp 𝕄 :=
  iprop(ownsTc c (Memref.whole cc0_stg0_0) fullShare (A.x c) ∗ ownsTc c (Memref.whole cc0_stg1_0) fullShare (A.wi 0 c)
    ∗ ownsTc c (Memref.whole cc0_stg2_0) fullShare (A.wo 0 c) ∗ ownsTc c (Memref.whole cc0_stg3_0) fullShare (A.wi 1 c)
    ∗ ownsTc c (Memref.whole cc0_stg4_0) fullShare (A.wo 1 c) ∗ ownsTc c (Memref.whole cc0_stg5_0) fullShare (A.wi 2 c)
    ∗ ownsTc c (Memref.whole cc0_stg6_0) fullShare (A.wo 2 c) ∗ ownsTc c (Memref.whole cc0_stg7_0) fullShare (out A c))

/-- The body's start, with the two rows it does not touch left over. -/
theorem start_of (c : Dev nD) : iprop((∃ W, owes (c : Thread nD τ) (ow c 0) W) ∗ stgIn A c ∗ linear c ∗ creds c ∗ scr c)
    ⊢ (iprop(Start A c ∗ any c (xS c) ∗ any c (partS c)) : sProp 𝕄) := by
  unfold stgIn scr
  iintro ⟨HO, ⟨X, wi0, wo0, wi1, wo1, wi2, wo2, out⟩, HL, HC, bx, bp, red, br, p2, bs⟩
  ihave HM := (msgs (F := F) c) $$ [HL HC]
  · isplitl [HL] <;> iassumption
  icases HM with ⟨⟨tb0, tb1, tb2⟩, cb, ab, HM⟩
  ihave HM' := (Entails.of_eq (msgs_list (F := F) fun y => iprop(Snd y.1 y.2 c ∗ Rcv y.1 y.2 c))) $$ HM
  icases HM' with ⟨⟨snd01, rcv01⟩, ⟨snd02, rcv02⟩, ⟨snd00, rcv00⟩, ⟨snd11, rcv11⟩, ⟨snd12, rcv12⟩, ⟨snd10, rcv10⟩, ⟨snd21, rcv21⟩, ⟨snd22, rcv22⟩, ⟨snd20, rcv20⟩, ⟨snd31, rcv31⟩, ⟨snd32, rcv32⟩, ⟨snd30, rcv30⟩, ⟨snd41, rcv41⟩, ⟨snd42, rcv42⟩, ⟨snd40, rcv40⟩⟩
  ihave bx' := (x_rows (F := F) c).1 $$ bx; icases bx' with ⟨xo, x0, x1, x2⟩
  ihave bp' := (part_rows (F := F) c).1 $$ bp; icases bp' with ⟨po, pt0, pt1, pt2⟩
  ihave br' := (rs_rows (F := F) c).1 $$ br; icases br' with ⟨rs0, rs1, rs2⟩
  ihave bs' := (rs2_rows (F := F) c).1 $$ bs; icases bs' with ⟨rb0, rb1, rb2⟩
  isplitr [xo po]
  · unfold Start
    isplitl [HO]
    · unfold St Zer; isplitl [HO]; · iexact HO
      iempintro
    isplitl [X]; · iexact X
    isplitl [wi0]; · iexact wi0
    isplitl [wo0]; · iexact wo0
    isplitl [wi1]; · iexact wi1
    isplitl [wo1]; · iexact wo1
    isplitl [wi2]; · iexact wi2
    isplitl [wo2]; · iexact wo2
    isplitl [tb0]; · iexact tb0
    isplitl [tb1]; · iexact tb1
    isplitl [tb2]; · iexact tb2
    isplitl [cb]; · iexact cb
    isplitl [ab]; · iexact ab
    isplitl [snd01]; · iexact snd01
    isplitl [rcv01]; · iexact rcv01
    isplitl [snd02]; · iexact snd02
    isplitl [rcv02]; · iexact rcv02
    isplitl [snd00]; · iexact snd00
    isplitl [rcv00]; · iexact rcv00
    isplitl [snd11]; · iexact snd11
    isplitl [rcv11]; · iexact rcv11
    isplitl [snd12]; · iexact snd12
    isplitl [rcv12]; · iexact rcv12
    isplitl [snd10]; · iexact snd10
    isplitl [rcv10]; · iexact rcv10
    isplitl [snd21]; · iexact snd21
    isplitl [rcv21]; · iexact rcv21
    isplitl [snd22]; · iexact snd22
    isplitl [rcv22]; · iexact rcv22
    isplitl [snd20]; · iexact snd20
    isplitl [rcv20]; · iexact rcv20
    isplitl [snd31]; · iexact snd31
    isplitl [rcv31]; · iexact rcv31
    isplitl [snd32]; · iexact snd32
    isplitl [rcv32]; · iexact rcv32
    isplitl [snd30]; · iexact snd30
    isplitl [rcv30]; · iexact rcv30
    isplitl [snd41]; · iexact snd41
    isplitl [rcv41]; · iexact rcv41
    isplitl [snd42]; · iexact snd42
    isplitl [rcv42]; · iexact rcv42
    isplitl [snd40]; · iexact snd40
    isplitl [rcv40]; · iexact rcv40
    isplitl [rs0]; · iexact rs0
    isplitl [x0]; · iexact x0
    isplitl [rb0]; · iexact rb0
    isplitl [pt0]; · iexact pt0
    isplitl [rs1]; · iexact rs1
    isplitl [x1]; · iexact x1
    isplitl [rb1]; · iexact rb1
    isplitl [pt1]; · iexact pt1
    isplitl [rs2]; · iexact rs2
    isplitl [x2]; · iexact x2
    isplitl [rb2]; · iexact rb2
    isplitl [pt2]; · iexact pt2
    isplitl [red]; · iexact red
    isplitl [p2]; · iexact p2
    iexact out
  · isplitl [xo] <;> iassumption

/-- The body's end, put together again. -/
theorem finish_of (c : Dev nD) : iprop(Finish A c ∗ any c (xS c) ∗ any c (partS c))
    ⊢ (iprop((∃ W, owes (c : Thread nD τ) (0 : CellTallies nD τ sig Unit) W) ∗ stgOut A c ∗ scr c ∗ bigSep Finset.univ fun k : Cell => semVal (kcell (c, k)) 0) : sProp 𝕄) := by
  unfold Finish St stgOut scr
  iintro ⟨⟨⟨HO, HZ⟩, X, wi0, wo0, wi1, wo1, pt1, pt2, pt0, rs0, rs1, rs2, x2, x0, x1, wi2, th1, th2, th0, wo2, q1, q2, q0, qo, rb0, rb1, rb2, out⟩, xo, po⟩
  isplitl [HO]; · iexact HO
  isplitl [X wi0 wo0 wi1 wo1 wi2 wo2 out]
  ·
    isplitl [X]; · iexact X
    isplitl [wi0]; · iexact wi0
    isplitl [wo0]; · iexact wo0
    isplitl [wi1]; · iexact wi1
    isplitl [wo1]; · iexact wo1
    isplitl [wi2]; · iexact wi2
    isplitl [wo2]; · iexact wo2
    iexact out
  isplitr [HZ]
  · isplitl [xo x0 x1 x2]
    · iapply (x_rows (F := F) c).2
      isplitl [xo]; · iexact xo
      isplitl [x0]; · iapply (to_any (xS (src c 0)) _); iexact x0
      isplitl [x1]; · iapply (to_any (xS (src c 1)) _); iexact x1
      iapply (to_any (xS (src c 2)) _); iexact x2
    isplitl [po pt0 pt1 pt2]
    · iapply (part_rows (F := F) c).2
      isplitl [po]; · iexact po
      isplitl [pt0]; · iapply (to_any (partS (tgt c 0)) _); iexact pt0
      isplitl [pt1]; · iapply (to_any (partS (tgt c 1)) _); iexact pt1
      iapply (to_any (partS (tgt c 2)) _); iexact pt2
    isplitl [th0 th1 th2]
    · iapply (red1_join (F := F) A c)
      isplitl [th0]; · iexact th0
      isplitl [th1]; · iexact th1
      iexact th2
    isplitl [rs0 rs1 rs2]
    · iapply (rs_rows (F := F) c).2
      isplitl [rs0]; · iapply (to_any (rsS 0) _); iexact rs0
      isplitl [rs1]; · iapply (to_any (rsS 1) _); iexact rs1
      iapply (to_any (rsS 2) _); iexact rs2
    isplitl [qo q0 q1 q2]
    · iapply (p2_rows (F := F) c).2
      isplitl [qo]; · iapply (to_any (p2S c) _); iexact qo
      isplitl [q0]; · iapply (to_any (p2S (tgt c 0)) _); iexact q0
      isplitl [q1]; · iapply (to_any (p2S (tgt c 1)) _); iexact q1
      iapply (to_any (p2S (tgt c 2)) _); iexact q2
    iapply (rs2_rows (F := F) c).2
    isplitl [rb0]; · iapply (to_any (rs2S 0) _); iexact rb0
    isplitl [rb1]; · iapply (to_any (rs2S 1) _); iexact rb1
    iapply (to_any (rs2S 2) _); iexact rb2
  · iapply (Entails.of_eq ((zer_list (F := F) c (some (true, 4, 0) :: some (false, 4, 0) :: some (true, 4, 2) :: some (false, 4, 2) :: some (true, 4, 1) :: some (false, 4, 1) :: some (false, 3, 0) :: some (false, 3, 2) :: some (false, 3, 1) :: some (true, 3, 1) :: some (true, 3, 0) :: some (true, 3, 2) :: some (true, 2, 0) :: some (false, 2, 0) :: some (true, 2, 2) :: some (false, 2, 2) :: some (true, 2, 1) :: some (false, 2, 1) :: some (false, 1, 0) :: some (false, 1, 2) :: some (false, 1, 1) :: some (true, 1, 1) :: some (true, 1, 0) :: some (true, 1, 2) :: some (true, 0, 0) :: some (false, 0, 0) :: some (true, 0, 2) :: some (false, 0, 2) :: some (true, 0, 1) :: some (false, 0, 1) :: none :: []) (by decide)).trans (congrArg (fun S => bigSep S fun k : Cell => (semVal (kcell (c, k)) 0 : sProp 𝕄)) (by decide))))
    iexact HZ

end Ends

end Cert.MeshProof

end

end
-- ==== Proof.Run.lean ====
/-
# The run of the whole program

The proof data of the one pipeline, its body obligation, and the launch: from any memory with zero counters every
execution ends, the result array holds the computed contents, the arguments are as they were and every counter is zero.
-/
module

public import proofs.«01_k».proof.Proof.Launch
public import Idealize.ShloMosaic.Lib.Pipeline.CollectiveSegs

@[expose] public section

noncomputable section

namespace Cert.MeshProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The pipeline has one point, -/
theorem cfg0_N : cfg0.N = 1 := by decide
/-- this one, -/
def t₀ : Fin cfg0.N := ⟨0, by rw [cfg0_N]; decide⟩
/-- and no other. -/
theorem fin_N (t : Fin cfg0.N) : t = t₀ := by
  obtain ⟨t, ht⟩ := t; have := cfg0_N; exact Fin.ext (by simp only [t₀]; omega)

/-- The arguments as the kernel's windows hold them: the activations, then the two weights of each layer. -/
def argsOf : Args F where
  x c := iblk m c 0 t₀
  wi l c := match l with
    | 0 => iblk m c 1 t₀
    | 1 => iblk m c 3 t₀
    | 2 => iblk m c 5 t₀
  wo l c := match l with
    | 0 => iblk m c 2 t₀
    | 1 => iblk m c 4 t₀
    | 2 => iblk m c 6 t₀

/-- The messages of this run. -/
abbrev V₀ : Vals F := vals (argsOf m)

/-- What a device's body starts from, and what it leaves. -/
def start (c : Dev nD) : sProp 𝕄 := iprop((∃ K, ctx (V₀ m) K) ∗ linear c ∗ creds c)
/-- The body's start with the scratch buffers; -/
def Φ₀ (c : Dev nD) : sProp 𝕄 := iprop(start m c ∗ scr c)
/-- what it leaves: the scratch buffers and all counters at zero. -/
def Φ₁ (c : Dev nD) : sProp 𝕄 := iprop(scr c ∗ bigSep Finset.univ fun k : Cell => semVal (kcell (c, k)) 0)

/-- What the pipeline holds on device `c` before and after its one point. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => iblk m c 0 t₀
    | ⟨1, _⟩ => iblk m c 1 t₀
    | ⟨2, _⟩ => iblk m c 2 t₀
    | ⟨3, _⟩ => iblk m c 3 t₀
    | ⟨4, _⟩ => iblk m c 4 t₀
    | ⟨5, _⟩ => iblk m c 5 t₀
    | ⟨6, _⟩ => iblk m c 6 t₀
    | ⟨7, _⟩ => out (argsOf m) c
  Φ t := match t with
    | ⟨0, _⟩ => Φ₀ m c
    | ⟨_ + 1, _⟩ => Φ₁ c
  q _ := fullShare
  owed t := match t with
    | ⟨0, _⟩ => ow c 0
    | ⟨_ + 1, _⟩ => 0

/-! ## The body at the one point -/

/-- Before the body window 0 holds its block of the argument. -/
theorem before_0 (c : Dev nD) (d) : (dats m ρ 0 c).before (0 : Fin 8) t₀ d = iblk m c 0 t₀ := by
  unfold Dat.before; rw [if_pos (fetch0_0 t₀)]; rfl
/-- Before the body window 1 holds its block of the argument. -/
theorem before_1 (c : Dev nD) (d) : (dats m ρ 0 c).before (1 : Fin 8) t₀ d = iblk m c 1 t₀ := by
  unfold Dat.before; rw [if_pos (fetch0_1 t₀)]; rfl
/-- Before the body window 2 holds its block of the argument. -/
theorem before_2 (c : Dev nD) (d) : (dats m ρ 0 c).before (2 : Fin 8) t₀ d = iblk m c 2 t₀ := by
  unfold Dat.before; rw [if_pos (fetch0_2 t₀)]; rfl
/-- Before the body window 3 holds its block of the argument. -/
theorem before_3 (c : Dev nD) (d) : (dats m ρ 0 c).before (3 : Fin 8) t₀ d = iblk m c 3 t₀ := by
  unfold Dat.before; rw [if_pos (fetch0_3 t₀)]; rfl
/-- Before the body window 4 holds its block of the argument. -/
theorem before_4 (c : Dev nD) (d) : (dats m ρ 0 c).before (4 : Fin 8) t₀ d = iblk m c 4 t₀ := by
  unfold Dat.before; rw [if_pos (fetch0_4 t₀)]; rfl
/-- Before the body window 5 holds its block of the argument. -/
theorem before_5 (c : Dev nD) (d) : (dats m ρ 0 c).before (5 : Fin 8) t₀ d = iblk m c 5 t₀ := by
  unfold Dat.before; rw [if_pos (fetch0_5 t₀)]; rfl
/-- Before the body window 6 holds its block of the argument. -/
theorem before_6 (c : Dev nD) (d) : (dats m ρ 0 c).before (6 : Fin 8) t₀ d = iblk m c 6 t₀ := by
  unfold Dat.before; rw [if_pos (fetch0_6 t₀)]; rfl

/-- The body's precondition, -/
def bodyPre (c : Dev nD) : sProp 𝕄 :=
  iprop(Φ₀ m c ∗ (dats m ρ 0 c).owesAt () t₀.castSucc
    ∗ (∃ d, ownsTc c (Memref.whole cc0_stg0_0) fullShare ((dats m ρ 0 c).before (0 : Fin 8) t₀ d))
    ∗ (∃ d, ownsTc c (Memref.whole cc0_stg1_0) fullShare ((dats m ρ 0 c).before (1 : Fin 8) t₀ d))
    ∗ (∃ d, ownsTc c (Memref.whole cc0_stg2_0) fullShare ((dats m ρ 0 c).before (2 : Fin 8) t₀ d))
    ∗ (∃ d, ownsTc c (Memref.whole cc0_stg3_0) fullShare ((dats m ρ 0 c).before (3 : Fin 8) t₀ d))
    ∗ (∃ d, ownsTc c (Memref.whole cc0_stg4_0) fullShare ((dats m ρ 0 c).before (4 : Fin 8) t₀ d))
    ∗ (∃ d, ownsTc c (Memref.whole cc0_stg5_0) fullShare ((dats m ρ 0 c).before (5 : Fin 8) t₀ d))
    ∗ (∃ d, ownsTc c (Memref.whole cc0_stg6_0) fullShare ((dats m ρ 0 c).before (6 : Fin 8) t₀ d))
    ∗ (∃ d, ownsTc c (Memref.whole cc0_stg7_0) fullShare ((dats m ρ 0 c).before (7 : Fin 8) t₀ d)))
/-- and its postcondition. -/
def bodyPost (c : Dev nD) : sProp 𝕄 :=
  iprop(Φ₁ c ∗ (dats m ρ 0 c).owesAt () t₀.succ
    ∗ ownsTc c (Memref.whole cc0_stg0_0) fullShare ((dats m ρ 0 c).after (0 : Fin 8) t₀)
    ∗ ownsTc c (Memref.whole cc0_stg1_0) fullShare ((dats m ρ 0 c).after (1 : Fin 8) t₀)
    ∗ ownsTc c (Memref.whole cc0_stg2_0) fullShare ((dats m ρ 0 c).after (2 : Fin 8) t₀)
    ∗ ownsTc c (Memref.whole cc0_stg3_0) fullShare ((dats m ρ 0 c).after (3 : Fin 8) t₀)
    ∗ ownsTc c (Memref.whole cc0_stg4_0) fullShare ((dats m ρ 0 c).after (4 : Fin 8) t₀)
    ∗ ownsTc c (Memref.whole cc0_stg5_0) fullShare ((dats m ρ 0 c).after (5 : Fin 8) t₀)
    ∗ ownsTc c (Memref.whole cc0_stg6_0) fullShare ((dats m ρ 0 c).after (6 : Fin 8) t₀)
    ∗ ownsTc c (Memref.whole cc0_stg7_0) fullShare ((dats m ρ 0 c).after (7 : Fin 8) t₀))

/-- The body meets its triple on every device. -/
theorem sound_body (c : Dev nD) : bodyPre m ρ c ⊢ WP c
    (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7) (fun _ => bodyPost m ρ c) := by
  unfold bodyPre Φ₀ start
  simp only [before_0, before_1, before_2, before_3, before_4, before_5, before_6]
  iintro ⟨⟨⟨⟨%K, #HC⟩, HL, HD⟩, Hscr⟩, HO, ⟨%d0, X⟩, ⟨%d1, wi0⟩, ⟨%d2, wo0⟩, ⟨%d3, wi1⟩, ⟨%d4, wo1⟩, ⟨%d5, wi2⟩, ⟨%d6, wo2⟩, ⟨%d7, out⟩⟩
  unfold Dat.owesAt Pipeline.owesWithin
  icases HO with ⟨%W, %hW, HO⟩
  rw [show (dats m ρ 0 c).owed t₀.castSucc = ow c 0 from rfl]
  ihave HS := (start_of (F := F) (argsOf m) c) $$ [HO X wi0 wo0 wi1 wo1 wi2 wo2 out HL HD Hscr]
  · isplitl [HO]; · iexists W; iexact HO
    isplitl [X wi0 wo0 wi1 wo1 wi2 wo2 out]
    · unfold stgIn
      isplitl [X]; · iexact X
      isplitl [wi0]; · iexact wi0
      isplitl [wo0]; · iexact wo0
      isplitl [wi1]; · iexact wi1
      isplitl [wo1]; · iexact wo1
      isplitl [wi2]; · iexact wi2
      isplitl [wo2]; · iexact wo2
      iapply (to_any (Memref.whole cc0_stg7_0) _); iexact out
    isplitl [HL]; · iexact HL
    isplitl [HD]; · iexact HD
    iexact Hscr
  icases HS with ⟨HS, Hx, Hp⟩
  iapply (body_run (argsOf m) K c (Q := fun _ => bodyPost m ρ c)) $$ [HS]
  · isplitr; · iexact HC
    iexact HS
  iintro HF
  ihave HE := (finish_of (F := F) (argsOf m) c) $$ [HF Hx Hp]
  · isplitl [HF]; · iexact HF
    isplitl [Hx] <;> iassumption
  icases HE with ⟨⟨%W', HO⟩, HW, Hscr, HZ⟩
  unfold bodyPost Φ₁ Dat.owesAt Pipeline.owesWithin
  rw [show (dats m ρ 0 c).owed t₀.succ = 0 from rfl]
  isplitl [Hscr HZ]
  · isplitl [Hscr] <;> iassumption
  isplitl [HO]
  · iexists W'; isplitr; · ipureintro; exact fun _ _ => Or.inl trivial
    iexact HO
  unfold stgOut
  iexact HW

set_option maxRecDepth 16384 in
/-- The library's body obligation on device `c`. -/
theorem body_obligation (c : Dev nD) : BodyObligation (dats (F := F) m ρ 0 c) (defs₀ (F := F)) 𝒱₀ () Set.univ := fun t => by
  rw [fin_N t]
  rw [bigSep_W0, bigSep_W0]
  exact sound_body m ρ c

/-! ## The launch's side conditions -/

/-- Every window is owned in full. -/
theorem share_eq (c : Dev nD) (w : Fin cfg0.W) : (dats m ρ 0 c).share w = fullShare := by unfold Dat.share; split <;> rfl

/-- What the launch gives a device is the body's start; -/
theorem start_intro (c : Dev nD) :
    iprop(Pipeline.unscopedRestP Pipeline.Prefetch.none cfg0.spec c (fun b => m ((c : Thread nD τ).loc b)) ∗ levAts L lv
        ∗ Pipeline.launchCred (fun d => ow d 0) c ∗ prngReg c (ρ c) ∗ G' (V₀ m) c)
      ⊢ |={Set.univ}=> iprop(start m c ∗ emp) := by
  unfold G'
  iintro ⟨-, Hlev, Hcr, -, ⟨%K, HR⟩, HL⟩
  ihave HD := (creds_intro (F := F) c) $$ Hcr
  imodintro
  isplitl
  · unfold start ctx
    isplitl [HR Hlev]
    · iexists K; isplitl [HR] <;> iassumption
    isplitl [HL] <;> iassumption
  · iempintro

/-- with the scratch buffers it is what the pipeline starts from; -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs]; · iexact Hs
  iapply (scr_eq (F := F) c).1; iexact Hr

/-- what the pipeline leaves is what the launch takes back. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl]
  unfold Φ₁
  iintro ⟨Hr, HZ⟩
  ihave H := (ownSems0_eq (F := F) c).2 $$ HZ
  icases H with ⟨HS, HU⟩
  isplitl [HU]; · iexact HU
  isplitl [HS]; · iexact HS
  iapply (scr_eq (F := F) c).2; iexact Hr

/-- The staging semaphores have level zero, -/
theorem lev_stage (w : Fin cfg0.W) (s : Fin (cfg0.win w).nbuf) : lev (.dma ((cfg0.win w).sem s)) = 0 := by
  fin_cases w <;> fin_cases s <;> rfl
/-- so a device may wait on them whatever it owes. -/
theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait c _ (pays.drop 0) fun x _ => by rw [lev_stage w s]; exact plev_pos x
    · exact mayWait c _ [] fun x hx => absurd hx List.not_mem_nil

/-! ## The run -/

/-- What window `w`'s array of device `c` ends with. -/
def finalA (c : Dev nD) (w : Fin cfg0.W) : Buf (Elt F) ((cfg0.win w).arr.view.loc (c : Thread nD τ)) := (dats m ρ 0 c).arrAt w cfg0.N

/-- Every array of every device ends with that. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- For any float values, from any memory with zero counters: every weakly fair execution of the program on the four
    devices ends, with every window's array at its computed contents and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => ow d 0) (howed₀ := fun _ => rfl) (howedN := fun _ => rfl)
    (L := L) (lv := lv) (hL := L_of_ne) (hwaits := waits m ρ)
    (G := G (V₀ m)) (G' := G' (V₀ m)) (u₀ := u₀)
    (hu₀ := by
      unfold u₀
      iintro Hu
      ihave H := (ownU_pair _ _) $$ Hu
      icases H with ⟨HP, HX⟩
      imod (fund_ring (V₀ m)) $$ HX with HG
      imodintro
      isplitl [HP] <;> iassumption)
    (hglob := glob (V₀ m))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.MeshProof

end

end
-- ==== Proof.Frames.lean ====
/-
# The frame claims

The run of the whole program read at the argument arrays and at the counters, for the kernel as compiled, for its ideal
reading and for the reference.
-/
module

public import proofs.«01_k».proof.Defs
public import proofs.«01_k».proof.Proof.Run
public import proofs.«01_k».proof.Proof.Gen.Kernel
public import proofs.«01_k».proof.Proof.Gen.ReferenceIdeal.Run
public import Idealize.ShloMosaic.Lib.Quiescent

@[expose] public section

noncomputable section

namespace Cert.MeshProof

open Idealize.ShloMosaic
open Idealize.ShloMosaic.TcCoe
open Idealize.SL.Sem

section Kept

open Cert.KernelIdeal Cert.KernelIdeal.Gen

variable {F : FTy → Type} [FloatOps F] (m : (ℓ : Loc nD τ sig) → Buf (Elt F) ℓ) (ρ : Dev nD → PrngReg)

/-- Every argument array of device `c` is, after the run, what it was before it. -/
theorem kept (r : PUnit × MemSt nD τ sig (Elt F)) (h : QC m ρ r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6) :=
  ⟨(h c (0 : Fin 8)).trans ((dats m ρ 0 c).arrAt_in (0 : Fin 8) rfl _),
   (h c (1 : Fin 8)).trans ((dats m ρ 0 c).arrAt_in (1 : Fin 8) rfl _),
   (h c (3 : Fin 8)).trans ((dats m ρ 0 c).arrAt_in (3 : Fin 8) rfl _),
   (h c (5 : Fin 8)).trans ((dats m ρ 0 c).arrAt_in (5 : Fin 8) rfl _),
   (h c (2 : Fin 8)).trans ((dats m ρ 0 c).arrAt_in (2 : Fin 8) rfl _),
   (h c (4 : Fin 8)).trans ((dats m ρ 0 c).arrAt_in (4 : Fin 8) rfl _),
   (h c (6 : Fin 8)).trans ((dats m ρ 0 c).arrAt_in (6 : Fin 8) rfl _)⟩

/-- The program ends with every argument array unchanged and every counter at zero. -/
theorem run_kept : θ_run defs (onTc (τ := τ) (main (F := F))) ⟨m, fun _ => 0, ρ⟩ (fun r =>
    (∀ c : Dev nD, r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6)) ∧ r.2.sem = fun _ => 0) :=
  (θ_run defs _ _).mono (fun r h => ⟨fun c => kept m ρ r h.1 c, h.2⟩) (run_main m ρ)

end Kept

section Same

variable {F : FTy → Type} [FloatOps F]

attribute [local instance] Cert.Kernel.Gen.facts Cert.KernelIdeal.Gen.facts

/-- The kernel as compiled and the kernel to be read at the ideal values have the same bodies, -/
theorem bodies_same : @Cert.Kernel.defs₀ F _ _ = @Cert.KernelIdeal.defs₀ F _ _ := by
  unfold Cert.Kernel.defs₀ Cert.KernelIdeal.defs₀
  refine congrArg Defs.onTc ?_
  funext l a
  match l, a with
  | 0, (t, s) => rfl

/-- the same definitions -/
theorem defs_same : @Cert.Kernel.defs F _ _ = @Cert.KernelIdeal.defs F _ _ := by
  unfold Cert.Kernel.defs Cert.KernelIdeal.defs
  exact congrArg (Pipeline.defs _) bodies_same

/-- and the same main program. -/
theorem main_same : @Cert.Kernel.main F _ = @Cert.KernelIdeal.main F _ := rfl

end Same

/-- The kernel as compiled ends, its arguments unchanged and its counters at zero. -/
theorem frame_kernel : Cert.quiescent_Kernel (hKernel := Cert.Kernel.Gen.facts) := by
  intro m ρ _
  rw [defs_same, main_same]
  exact run_kept (F := Bits) m ρ

/-- The kernel read at the ideal values ends likewise. -/
theorem frame_kernelIdeal : Cert.quiescent_KernelIdeal (hKernelIdeal := Cert.KernelIdeal.Gen.facts) := fun m ρ _ => run_kept (F := Ideal) m ρ

/-- The reference ends likewise: it has no counters. -/
theorem frame_reference : Cert.quiescent_ReferenceIdeal (hReferenceIdeal := Cert.ReferenceIdeal.Gen.facts) := fun m ρ _ =>
  (θ_run (Cert.ReferenceIdeal.defs (F := Ideal)) _ _).mono (fun r h => ⟨fun c => (h c).2, sem_eq_zero_of_no_sems (by decide) _⟩)
    (Cert.ReferenceIdeal.Value.run (F := Ideal) m ρ)

end Cert.MeshProof

end
-- ==== Proof.Payloads.lean ====
/-
# The kernel's expressions at the ideal values, read at an index

At the ideal values a change of format is the identity and a product is a sum, so every expression of the kernel is a
sum of products of its operands' entries, or a sum of four such, or such a sum cut off at zero.
-/
module

public import proofs.«01_k».proof.Proof.Values
public import Idealize.ShloMosaic.Lib.MatmulPlain
public import Idealize.ShloMosaic.Lib.ValueIdx
public import Idealize.ShloMosaic.Lib.Pipeline.Value

@[expose] public section

noncomputable section

namespace Cert.MeshProof

open Cert.KernelIdeal Cert.KernelIdeal.Gen
open Idealize.ShloMosaic Idealize.ShloMosaic.ValueIdx

/-- The four products of the kernel are plain: rows by contraction times contraction by columns. -/
theorem dot_in : dot_S64x1024_S1024x2048_S64x2048_1_0_0_1_n_n = DotDims.plain 64 1024 2048 := rfl
/-- A block's product, -/
theorem dot_block : dot_S64x2048_S2048x256_S64x256_1_0_0_1_n_n = DotDims.plain 64 2048 256 := rfl
/-- a gathered block's product, -/
theorem dot_gather : dot_S64x256_S256x2048_S64x2048_1_0_0_1_n_n = DotDims.plain 64 256 2048 := rfl
/-- and the last product are plain too. -/
theorem dot_out : dot_S64x2048_S2048x1024_S64x1024_1_0_0_1_n_n = DotDims.plain 64 2048 1024 := rfl

/-- A plain product into zeros, read at an index, is the sum of the products over the contraction. -/
theorem plain_apply {M K N : Nat} {φ₁ φ₂ : FTy} (a : FVec Ideal ⟨2, ![M, K]⟩ φ₁) (b : FVec Ideal ⟨2, ![K, N]⟩ φ₂) (i : Fin M) (j : Fin N) :
    matmul (DotDims.plain M K N) none a b (constant ⟨2, ![M, N]⟩ .f32 0x00000000#32) (ix2 i j) = ∑ k : Fin K, a (ix2 i k) * b (ix2 k j) := by
  refine (Ideal.matmul_plain_apply ..).trans ?_
  show Ideal.ofBits .f32 0x00000000#32 + _ = _
  rw [Ideal.ofBits_zero_f32, zero_add]

/-- The zero that the kernel takes the maximum with is zero. -/
theorem zero_word : (Scalar.ofBits .f32 0x00000000#32 : Ideal .f32) = (0 : EReal) := Ideal.ofBits_zero_f32

/-- A block put in a slot and taken out is the block; -/
theorem up_down (X : Vec Ideal S64x256 .f32) (h : S1x64x256.ShapeCasts S64x256) : shapeCast (α := Ideal .f32) S64x256 (up X) h = X :=
  shapeCast_shapeCast _ _ _
/-- the last rows put in a slot and taken out are the rows. -/
theorem up2_down (X : Vec Ideal S16x1024 .f32) (h : S1x16x1024.ShapeCasts S16x1024) : shapeCast (α := Ideal .f32) S16x1024 (up2 X) h = X :=
  shapeCast_shapeCast _ _ _

variable (i : Fin 64)

/-- The first hidden layer: the product cut off at zero. -/
theorem pay2_apply (x : Vec Ideal S64x1024 .f32) (w : Vec Ideal S1024x2048 .f32) (j : Fin 2048) :
    k0_pay2 x w (ix2 i j) = max (∑ k : Fin 1024, (x (ix2 i k) * w (ix2 k j) : EReal)) 0 := by
  unfold k0_pay2
  simp only [shapeCast_self]
  show max _ _ = _
  rw [dot_in, plain_apply]
  exact congrArg _ zero_word

/-- A block of a hidden layer's product. -/
theorem pay8_apply (h : FVec Ideal S64x2048 .bf16) (b : Vec Ideal S2048x256 .f32) (j : Fin 256) :
    k0_pay8 h b (ix2 i j) = ∑ k : Fin 2048, (h (ix2 i k) * b (ix2 k j) : EReal) := by
  unfold k0_pay8
  simp only [shapeCast_self]
  rw [dot_block, plain_apply]; rfl
/-- The same for the second hidden layer. -/
theorem pay18_apply (h : FVec Ideal S64x2048 .bf16) (b : Vec Ideal S2048x256 .f32) (j : Fin 256) :
    k0_pay18 h b (ix2 i j) = ∑ k : Fin 2048, (h (ix2 i k) * b (ix2 k j) : EReal) := by
  unfold k0_pay18
  simp only [shapeCast_self]
  rw [dot_block, plain_apply]; rfl

/-- A device's own block and the three it received, added. -/
theorem pay9_apply (a p q r : Vec Ideal S64x256 .f32) (j : Fin 256) :
    k0_pay9 a (up p) (up q) (up r) (ix2 i j) = (a (ix2 i j) + p (ix2 i j) + q (ix2 i j) + r (ix2 i j) : EReal) := by
  unfold k0_pay9; simp only [up_down]; rfl
/-- The same for the second sum, -/
theorem pay19_apply (a p q r : Vec Ideal S64x256 .f32) (j : Fin 256) :
    k0_pay19 a (up p) (up q) (up r) (ix2 i j) = (a (ix2 i j) + p (ix2 i j) + q (ix2 i j) + r (ix2 i j) : EReal) := by
  unfold k0_pay19; simp only [up_down]; rfl
/-- and for the sixteen rows of the result. -/
theorem pay1_apply (a p q r : Vec Ideal S16x1024 .f32) (y : S16x1024.Idx) :
    k0_pay1 a (up2 p) (up2 q) (up2 r) y = (a y + p y + q y + r y : EReal) := by
  unfold k0_pay1; simp only [up2_down]; rfl

/-- The sum as it is stored is the sum. -/
theorem pay10_eq (a : FVec Ideal S64x256 .f32) (p q r : Vec Ideal S1x64x256 .f32) : k0_pay10 a p q r = k0_pay9 a p q r := by
  unfold k0_pay10; exact shapeCast_self _ _
/-- The second sum as it is stored is the sum. -/
theorem pay20_eq (a : FVec Ideal S64x256 .f32) : k0_pay20 a = a := by
  unfold k0_pay20; exact shapeCast_self _ _

/-- The gathering products: the first, one added to the sum so far, the last also cut off at zero. -/
theorem pay11_apply (s : FVec Ideal S64x256 .f32) (b : Vec Ideal S256x2048 .f32) (j : Fin 2048) :
    k0_pay11 s b (ix2 i j) = ∑ k : Fin 256, (s (ix2 i k) * b (ix2 k j) : EReal) := by
  unfold k0_pay11
  simp only [shapeCast_self]
  rw [dot_gather, plain_apply]; rfl
/-- The first gathering product of the third layer. -/
theorem pay21_apply (s : FVec Ideal S64x256 .f32) (b : Vec Ideal S256x2048 .f32) (j : Fin 2048) :
    k0_pay21 s b (ix2 i j) = ∑ k : Fin 256, (s (ix2 i k) * b (ix2 k j) : EReal) := by
  unfold k0_pay21
  simp only [shapeCast_self]
  rw [dot_gather, plain_apply]; rfl
/-- The second gathering product added to the first, -/
theorem pay12_apply (a : FVec Ideal S64x2048 .f32) (s : Vec Ideal S64x256 .f32) (b : Vec Ideal S256x2048 .f32) (j : Fin 2048) :
    k0_pay12 a (up s) b (ix2 i j) = (a (ix2 i j) + ∑ k : Fin 256, s (ix2 i k) * b (ix2 k j) : EReal) := by
  unfold k0_pay12
  simp only [shapeCast_self, up_down, addf_apply]
  rw [dot_gather, plain_apply]; rfl
/-- and the third added to both. -/
theorem pay13_apply (a : FVec Ideal S64x2048 .f32) (s : Vec Ideal S64x256 .f32) (b : Vec Ideal S256x2048 .f32) (j : Fin 2048) :
    k0_pay13 a (up s) b (ix2 i j) = (a (ix2 i j) + ∑ k : Fin 256, s (ix2 i k) * b (ix2 k j) : EReal) := by
  unfold k0_pay13
  simp only [shapeCast_self, up_down, addf_apply]
  rw [dot_gather, plain_apply]; rfl
/-- The second gathering product of the third layer, -/
theorem pay22_apply (a : FVec Ideal S64x2048 .f32) (s : Vec Ideal S64x256 .f32) (b : Vec Ideal S256x2048 .f32) (j : Fin 2048) :
    k0_pay22 a (up s) b (ix2 i j) = (a (ix2 i j) + ∑ k : Fin 256, s (ix2 i k) * b (ix2 k j) : EReal) := by
  unfold k0_pay22
  simp only [shapeCast_self, up_down, addf_apply]
  rw [dot_gather, plain_apply]; rfl
/-- the third, -/
theorem pay23_apply (a : FVec Ideal S64x2048 .f32) (s : Vec Ideal S64x256 .f32) (b : Vec Ideal S256x2048 .f32) (j : Fin 2048) :
    k0_pay23 a (up s) b (ix2 i j) = (a (ix2 i j) + ∑ k : Fin 256, s (ix2 i k) * b (ix2 k j) : EReal) := by
  unfold k0_pay23
  simp only [shapeCast_self, up_down, addf_apply]
  rw [dot_gather, plain_apply]; rfl
/-- and the fourth. -/
theorem pay24_apply (a : FVec Ideal S64x2048 .f32) (s : Vec Ideal S64x256 .f32) (b : Vec Ideal S256x2048 .f32) (j : Fin 2048) :
    k0_pay24 a (up s) b (ix2 i j) = (a (ix2 i j) + ∑ k : Fin 256, s (ix2 i k) * b (ix2 k j) : EReal) := by
  unfold k0_pay24
  simp only [shapeCast_self, up_down, addf_apply]
  rw [dot_gather, plain_apply]; rfl
/-- The fourth gathering product of the second layer added and the sum cut off at zero. -/
theorem pay14_apply (a : FVec Ideal S64x2048 .f32) (s : Vec Ideal S64x256 .f32) (b : Vec Ideal S256x2048 .f32) (j : Fin 2048) :
    k0_pay14 a (up s) b (ix2 i j) = max (a (ix2 i j) + ∑ k : Fin 256, s (ix2 i k) * b (ix2 k j) : EReal) 0 := by
  unfold k0_pay14
  simp only [shapeCast_self, up_down]
  show max (_ + _) _ = _
  rw [dot_gather, plain_apply]
  exact congrArg _ zero_word

/-- The last product, of the hidden layer cut off at zero. -/
theorem pay25_apply (h : FVec Ideal S64x2048 .f32) (w : Vec Ideal S2048x1024 .f32) (j : Fin 1024) :
    k0_pay25 h w (ix2 i j) = ∑ k : Fin 2048, (max (h (ix2 i k)) 0 * w (ix2 k j) : EReal) := by
  unfold k0_pay25
  simp only [shapeCast_self]
  rw [dot_out, plain_apply]
  refine Finset.sum_congr rfl fun k _ => ?_
  refine congrArg (· * _) ?_
  show max (h (ix2 i k)) _ = _
  exact congrArg _ zero_word

end Cert.MeshProof

end
-- ==== Proof.Layers.lean ====
/-
# The kernel's result is its rows of the reference's

The reference's three layers are written as functions of whole matrices. Each hidden layer of a device is its columns of
the reference's, each reduced sum its columns of the reference's product, and the result its rows of the last product:
a sum over a whole axis is the sum, over the four devices, of the sums over their parts.
-/
module

public import proofs.«01_k».proof.Proof.Payloads

@[expose] public section

noncomputable section

namespace Cert.MeshProof

open Cert.KernelIdeal Cert.KernelIdeal.Gen
open Idealize.ShloMosaic Idealize.ShloMosaic.ValueIdx

/-! ## Sums in four parts -/

/-- Place `k` of device `c`'s part of an axis cut in four parts of `n`. -/
def at4 {n : Nat} (c : Dev nD) (k : Fin n) : Fin (4 * n) := ⟨c.val * n + k.val, by
  have h := k.isLt
  have hc : c.val ≤ 3 := Nat.le_of_lt_succ c.isLt
  have := Nat.mul_le_mul_right n hc
  omega⟩

/-- A sum over an axis cut in four parts is the sum over the parts of the sums over each. -/
theorem sum_parts {n : Nat} (f : Fin (4 * n) → EReal) : ∑ k, f k = ∑ c : Dev nD, ∑ k : Fin n, f (at4 c k) := by
  rw [← Fintype.sum_prod_type' (f := fun (c : Dev nD) (k : Fin n) => f (at4 c k))]
  refine (Fintype.sum_equiv (finProdFinEquiv (m := 4) (n := n)) _ _ fun p => congrArg f (Fin.ext ?_)).symm
  show p.1.val * n + p.2.val = p.2.val + n * p.1.val
  rw [Nat.mul_comm, Nat.add_comm]

/-- A device's own term and its three sources', in either order of the program, are all four devices' terms. -/
theorem four_terms (f : Dev nD → EReal) : ∀ c : Dev nD, f c + f (src c 0) + f (src c 1) + f (src c 2) = ∑ d : Dev nD, f d := by
  have e : ∑ d : Dev nD, f d = f 0 + f 1 + f 2 + f 3 := Fin.sum_univ_four f
  intro c
  rw [e]
  match c with
  | 0 => rfl
  | 1 => show f 1 + f 2 + f 3 + f 0 = _; ac_rfl
  | 2 => show f 2 + f 3 + f 0 + f 1 = _; ac_rfl
  | 3 => show f 3 + f 0 + f 1 + f 2 = _; ac_rfl
/-- The same in the order in which the gathered blocks arrive. -/
theorem four_terms' (f : Dev nD → EReal) (c : Dev nD) : f c + f (src c 2) + f (src c 0) + f (src c 1) = ∑ d : Dev nD, f d := by
  rw [← four_terms f c]; ac_rfl

/-! ## The reference's layers -/

/-- The shape of the rows, -/
abbrev R64x1024 : Shape := ⟨2, ![64, 1024]⟩
/-- of a hidden layer, -/
abbrev R64x8192 : Shape := ⟨2, ![64, 8192]⟩
/-- of a first weight, -/
abbrev R1024x8192 : Shape := ⟨2, ![1024, 8192]⟩
/-- of a second weight. -/
abbrev R8192x1024 : Shape := ⟨2, ![8192, 1024]⟩

/-- The hidden layer of the rows `X` under the first weight `W`: the product cut off at zero; -/
def hidR (X : R64x1024.Idx → EReal) (W : R1024x8192.Idx → EReal) : R64x8192.Idx → EReal :=
  fun j => max (∑ k : Fin 1024, X (ix2 (j 0) k) * W (ix2 k (j 1))) 0
/-- its product with the second weight. -/
def mulR (H : R64x8192.Idx → EReal) (W : R8192x1024.Idx → EReal) : R64x1024.Idx → EReal :=
  fun j => ∑ k : Fin 8192, H (ix2 (j 0) k) * W (ix2 k (j 1))

/-- The devices' arguments are the parts of the reference's: the rows themselves, a quarter of the columns of each first
    weight and a quarter of the rows of each second one. -/
structure PartsOf (A : Args Ideal) (X : R64x1024.Idx → EReal) (WI : Fin 3 → R1024x8192.Idx → EReal)
    (WO : Fin 3 → R8192x1024.Idx → EReal) : Prop where
  x : ∀ c i k, A.x c (ix2 i k) = X (ix2 i k)
  wi : ∀ l c k (j : Fin 2048), A.wi l c (ix2 k j) = WI l (ix2 k (at4 (n := 2048) c j))
  wo : ∀ l c (k : Fin 2048) j, A.wo l c (ix2 k j) = WO l (ix2 (at4 (n := 2048) c k) j)

section Layers

variable {A : Args Ideal} {X : R64x1024.Idx → EReal} {WI : Fin 3 → R1024x8192.Idx → EReal} {WO : Fin 3 → R8192x1024.Idx → EReal}

/-- Column `j` of device `e`'s block of columns, row `j` of its block of rows. -/
theorem colB_apply (e : Dev nD) (W : Vec Ideal S2048x1024 .f32) (k : Fin 2048) (j : Fin 256) :
    colB e W (ix2 k j) = W (ix2 k (at4 (n := 256) e j)) := by
  unfold colB
  refine congrArg W (funext fun a => Fin.ext ?_)
  match a with
  | ⟨0, _⟩ => show 0 + 1 * k.val = k.val; omega
  | ⟨1, _⟩ => show 256 * e.val + 1 * j.val = e.val * 256 + j.val; omega
/-- Row `k` of device `e`'s block of rows is row `k` of its part. -/
theorem rowB_apply (e : Dev nD) (W : Vec Ideal S1024x2048 .f32) (k : Fin 256) (j : Fin 2048) :
    rowB e W (ix2 k j) = W (ix2 (at4 (n := 256) e k) j) := by
  unfold rowB
  refine congrArg W (funext fun a => Fin.ext ?_)
  match a with
  | ⟨0, _⟩ => show 256 * e.val + 1 * k.val = e.val * 256 + k.val; omega
  | ⟨1, _⟩ => show 0 + 1 * j.val = j.val; omega

/-- The blocks that four devices send to `e`, added, are `e`'s columns of the reference's product. -/
theorem blocks_sum (H : R64x8192.Idx → EReal) (W : R8192x1024.Idx → EReal) (h : Dev nD → FVec Ideal S64x2048 .bf16)
    (w : Dev nD → Vec Ideal S2048x1024 .f32) (hh : ∀ c i (j : Fin 2048), h c (ix2 i j) = H (ix2 i (at4 (n := 2048) c j)))
    (hw : ∀ c (k : Fin 2048) j, w c (ix2 k j) = W (ix2 (at4 (n := 2048) c k) j)) (e : Dev nD) (i : Fin 64) (j : Fin 256) :
    ∑ c : Dev nD, ∑ k : Fin 2048, (h c (ix2 i k) * colB e (w c) (ix2 k j) : EReal) = mulR H W (ix2 i (at4 (n := 256) e j)) := by
  refine Eq.trans ?_ (sum_parts (n := 2048) fun k => H (ix2 i k) * W (ix2 k (at4 (n := 256) e j))).symm
  refine Finset.sum_congr rfl fun c _ => Finset.sum_congr rfl fun k _ => ?_
  rw [colB_apply, hh, hw]

/-- The four devices' gathered sums against `c`'s part of the first weight, added, are the reference's product. -/
theorem gather_sum (X : R64x1024.Idx → EReal) (W : R1024x8192.Idx → EReal) (s : Dev nD → Vec Ideal S64x256 .f32)
    (w : Vec Ideal S1024x2048 .f32) (c : Dev nD) (hs : ∀ e i (j : Fin 256), s e (ix2 i j) = X (ix2 i (at4 (n := 256) e j)))
    (hw : ∀ k (j : Fin 2048), w (ix2 k j) = W (ix2 k (at4 (n := 2048) c j))) (i : Fin 64) (j : Fin 2048) :
    ∑ e : Dev nD, ∑ k : Fin 256, (s e (ix2 i k) * rowB e w (ix2 k j) : EReal)
      = ∑ k : Fin 1024, X (ix2 i k) * W (ix2 k (at4 (n := 2048) c j)) := by
  refine Eq.trans ?_ (sum_parts (n := 256) fun k => X (ix2 i k) * W (ix2 k (at4 (n := 2048) c j))).symm
  refine Finset.sum_congr rfl fun e _ => Finset.sum_congr rfl fun k _ => ?_
  rw [rowB_apply, hs, hw]

variable (P : PartsOf A X WI WO)

include P

/-- The first hidden layer of `c`. -/
theorem hid0_cols (c : Dev nD) (i : Fin 64) (j : Fin 2048) : hid0 A c (ix2 i j) = hidR X (WI 0) (ix2 i (at4 (n := 2048) c j)) := by
  unfold hid0
  rw [pay2_apply]
  refine congrArg (max · 0) (Finset.sum_congr rfl fun k _ => ?_)
  rw [P.x, P.wi]

/-- The first product's columns of `e`. -/
theorem sum0_cols (e : Dev nD) (i : Fin 64) (j : Fin 256) :
    sum0 A e (ix2 i j) = mulR (hidR X (WI 0)) (WO 0) (ix2 i (at4 (n := 256) e j)) := by
  rw [← blocks_sum _ _ (hid0 A) (A.wo 0) (hid0_cols P) (P.wo 0) e i j,
    ← four_terms (fun c => ∑ k : Fin 2048, (hid0 A c (ix2 i k) * colB e (A.wo 0 c) (ix2 k j) : EReal)) e]
  unfold sum0 part0
  rw [pay9_apply]
  unfold blk0
  simp only [pay8_apply]
/-- The first sum as it is stored is the same columns. -/
theorem red0_cols (e : Dev nD) (i : Fin 64) (j : Fin 256) :
    red0 A e (ix2 i j) = mulR (hidR X (WI 0)) (WO 0) (ix2 i (at4 (n := 256) e j)) :=
  (congrFun (pay10_eq ..) _).trans (sum0_cols P e i j)

/-- The second hidden layer of `c`. -/
theorem hid1_cols (c : Dev nD) (i : Fin 64) (j : Fin 2048) :
    hid1 A c (ix2 i j) = hidR (mulR (hidR X (WI 0)) (WO 0)) (WI 1) (ix2 i (at4 (n := 2048) c j)) := by
  have hg := gather_sum _ (WI 1) (red0 A) (A.wi 1 c) c (red0_cols P) (P.wi 1 c) i j
  rw [← four_terms' _ c] at hg
  refine Eq.trans ?_ (congrArg (max · 0) hg)
  have hs : red0 A c = sum0 A c := pay10_eq ..
  unfold hid1; rw [pay14_apply]
  unfold acc1_2; rw [pay13_apply]
  unfold acc1_1; rw [pay12_apply]
  unfold acc1_0; rw [pay11_apply, hs]

/-- The second product's columns of `e`. -/
theorem sum1_cols (e : Dev nD) (i : Fin 64) (j : Fin 256) :
    sum1 A e (ix2 i j) = mulR (hidR (mulR (hidR X (WI 0)) (WO 0)) (WI 1)) (WO 1) (ix2 i (at4 (n := 256) e j)) := by
  rw [← blocks_sum _ _ (hid1 A) (A.wo 1) (hid1_cols P) (P.wo 1) e i j,
    ← four_terms (fun c => ∑ k : Fin 2048, (hid1 A c (ix2 i k) * colB e (A.wo 1 c) (ix2 k j) : EReal)) e]
  unfold sum1 part1
  rw [pay19_apply]
  unfold blk1
  simp only [pay18_apply]
/-- The second sum as it is stored is the same columns. -/
theorem red1_cols (e : Dev nD) (i : Fin 64) (j : Fin 256) :
    red1 A e (ix2 i j) = mulR (hidR (mulR (hidR X (WI 0)) (WO 0)) (WI 1)) (WO 1) (ix2 i (at4 (n := 256) e j)) :=
  (congrFun (pay20_eq _) _).trans (sum1_cols P e i j)

/-- The third hidden layer of `c`, cut off at zero. -/
theorem hid2_cols (c : Dev nD) (i : Fin 64) (j : Fin 2048) :
    max (hid2 A c (ix2 i j) : EReal) 0
      = hidR (mulR (hidR (mulR (hidR X (WI 0)) (WO 0)) (WI 1)) (WO 1)) (WI 2) (ix2 i (at4 (n := 2048) c j)) := by
  have hg := gather_sum _ (WI 2) (red1 A) (A.wi 2 c) c (red1_cols P) (P.wi 2 c) i j
  rw [← four_terms' _ c] at hg
  refine congrArg (max · 0) (Eq.trans ?_ hg)
  have hs : red1 A c = sum1 A c := pay20_eq _
  unfold hid2; rw [pay24_apply]
  unfold acc2_2; rw [pay23_apply]
  unfold acc2_1; rw [pay22_apply]
  unfold acc2_0; rw [pay21_apply, hs]

/-- The four devices' last products, added, are the reference's result. -/
theorem prod_total (i : Fin 64) (j : Fin 1024) : ∑ c : Dev nD, (prod A c (ix2 i j) : EReal)
    = mulR (hidR (mulR (hidR (mulR (hidR X (WI 0)) (WO 0)) (WI 1)) (WO 1)) (WI 2)) (WO 2) (ix2 i j) := by
  refine Eq.trans ?_ (sum_parts (n := 2048) fun k => _).symm
  refine Finset.sum_congr rfl fun c _ => ?_
  unfold prod
  rw [pay25_apply]
  refine Finset.sum_congr rfl fun k _ => ?_
  rw [hid2_cols P, P.wo]

/-- The result of `c` is its sixteen rows of the reference's result. -/
theorem out_rows (c : Dev nD) (i : Fin 16) (j : Fin 1024) : out A c (ix2 i j)
    = mulR (hidR (mulR (hidR (mulR (hidR X (WI 0)) (WO 0)) (WI 1)) (WO 1)) (WI 2)) (WO 2) (ix2 (at4 (n := 16) c i) j) := by
  have hl : ∀ d : Dev nD, last A d c (ix2 i j) = prod A d (ix2 (at4 (n := 16) c i) j) := fun d => by
    unfold last
    refine congrArg (prod A d) (funext fun a => Fin.ext ?_)
    match a with
    | ⟨0, _⟩ => show 16 * c.val + 1 * i.val = c.val * 16 + i.val; omega
    | ⟨1, _⟩ => show 0 + 1 * j.val = j.val; omega
  rw [← prod_total P, ← four_terms (fun d => (prod A d (ix2 (at4 (n := 16) c i) j) : EReal)) c]
  unfold out
  rw [pay1_apply]
  simp only [hl]

end Layers

end Cert.MeshProof

end
-- ==== Proof.Equation.lean ====
/-
# The value claim

Each argument window's block is its whole array, the result window's array ends at what the body left, and the
reference's result is the three layers of whole matrices: so each device's result is its sixteen rows of the reference's.
-/
module

public import proofs.«01_k».proof.Proof.Frames
public import proofs.«01_k».proof.Proof.Layers
public import Idealize.ShloMosaic.Lib.StackMember
public import Idealize.ShloMosaic.Lib.Layout

@[expose] public section

noncomputable section

namespace Cert.MeshProof

open Idealize.ShloMosaic Idealize.ShloMosaic.ValueIdx
open Idealize.ShloMosaic.TcCoe
open Idealize.SL.Sem

/-! ## The kernel's arrays -/

section Arrays

open Cert.KernelIdeal Cert.KernelIdeal.Gen

variable {F : FTy → Type} [FloatOps F] (m : (ℓ : Loc nD τ sig) → Buf (Elt F) ℓ) (ρ : Dev nD → PrngReg) (c : Dev nD)

/-- The one block of each window is its whole array. -/
theorem read_x (f : Buf (Elt F) ((c : Thread nD τ).loc main_arg0)) : (win0_0.blk t₀).view.read (Elt F) f = f :=
  Memref.read_access_unit_zero (Elt F) main_arg0
    (show (fun a => (win0_0.index t₀) a * main_arg0.ty.shape.size a) = fun _ => 0 from funext fun a => by fin_cases a <;> decide)
    (fun a => by fin_cases a <;> decide) f
/-- The block of the first weight of layer 0 is its whole array; -/
theorem read_wi0 (f : Buf (Elt F) ((c : Thread nD τ).loc main_arg1)) : (win0_1.blk t₀).view.read (Elt F) f = f :=
  Memref.read_access_unit_zero (Elt F) main_arg1
    (show (fun a => (win0_1.index t₀) a * main_arg1.ty.shape.size a) = fun _ => 0 from funext fun a => by fin_cases a <;> decide)
    (fun a => by fin_cases a <;> decide) f
/-- the block of the second weight of layer 0 is its whole array. -/
theorem read_wo0 (f : Buf (Elt F) ((c : Thread nD τ).loc main_arg4)) : (win0_2.blk t₀).view.read (Elt F) f = f :=
  Memref.read_access_unit_zero (Elt F) main_arg4
    (show (fun a => (win0_2.index t₀) a * main_arg4.ty.shape.size a) = fun _ => 0 from funext fun a => by fin_cases a <;> decide)
    (fun a => by fin_cases a <;> decide) f
/-- The block of the first weight of layer 1 is its whole array; -/
theorem read_wi1 (f : Buf (Elt F) ((c : Thread nD τ).loc main_arg2)) : (win0_3.blk t₀).view.read (Elt F) f = f :=
  Memref.read_access_unit_zero (Elt F) main_arg2
    (show (fun a => (win0_3.index t₀) a * main_arg2.ty.shape.size a) = fun _ => 0 from funext fun a => by fin_cases a <;> decide)
    (fun a => by fin_cases a <;> decide) f
/-- the block of the second weight of layer 1 is its whole array. -/
theorem read_wo1 (f : Buf (Elt F) ((c : Thread nD τ).loc main_arg5)) : (win0_4.blk t₀).view.read (Elt F) f = f :=
  Memref.read_access_unit_zero (Elt F) main_arg5
    (show (fun a => (win0_4.index t₀) a * main_arg5.ty.shape.size a) = fun _ => 0 from funext fun a => by fin_cases a <;> decide)
    (fun a => by fin_cases a <;> decide) f
/-- The block of the first weight of layer 2 is its whole array; -/
theorem read_wi2 (f : Buf (Elt F) ((c : Thread nD τ).loc main_arg3)) : (win0_5.blk t₀).view.read (Elt F) f = f :=
  Memref.read_access_unit_zero (Elt F) main_arg3
    (show (fun a => (win0_5.index t₀) a * main_arg3.ty.shape.size a) = fun _ => 0 from funext fun a => by fin_cases a <;> decide)
    (fun a => by fin_cases a <;> decide) f
/-- the block of the second weight of layer 2 is its whole array. -/
theorem read_wo2 (f : Buf (Elt F) ((c : Thread nD τ).loc main_arg6)) : (win0_6.blk t₀).view.read (Elt F) f = f :=
  Memref.read_access_unit_zero (Elt F) main_arg6
    (show (fun a => (win0_6.index t₀) a * main_arg6.ty.shape.size a) = fun _ => 0 from funext fun a => by fin_cases a <;> decide)
    (fun a => by fin_cases a <;> decide) f
/-- Nor is the result's block anything but the whole result. -/
theorem read_res (f : Buf (Elt F) ((c : Thread nD τ).loc main_v1)) : (win0_7.blk t₀).view.read (Elt F) f = f :=
  Memref.read_access_unit_zero (Elt F) main_v1
    (show (fun a => (win0_7.index t₀) a * main_v1.ty.shape.size a) = fun _ => 0 from funext fun a => by fin_cases a <;> decide)
    (fun a => by fin_cases a <;> decide) f

/-- The result array ends at what the body left in its window. -/
theorem final_res : finalA m ρ c (7 : Fin 8) = out (argsOf m) c := by
  have hw : ((cfg0.win 7).blk t₀).view.read (Elt F) ((dats m ρ 0 c).arrAt (7 : Fin 8) cfg0.N) = (dats m ρ 0 c).flushed 7 t₀ := by
    rw [show cfg0.N = t₀.val + 1 from rfl, (dats m ρ 0 c).arrAt_succ (7 : Fin 8) t₀, flush0_7, if_pos rfl]
    exact View.read_write_univ _ _
  refine ((read_res c _).symm.trans hw).trans ?_
  show (cfg0.win 7).cut _ (out (argsOf m) c) = _
  exact funext fun _ => rfl

end Arrays

/-! ## The claim -/

section Claim

open Cert.KernelIdeal Cert.KernelIdeal.Gen

/-- The first weights and the second weights of the reference, from its memory. -/
def refX (m' : (ℓ : Loc Cert.ReferenceIdeal.nD Cert.ReferenceIdeal.τ Cert.ReferenceIdeal.sig) → Buf (Elt Ideal) ℓ) : R64x1024.Idx → EReal :=
  m' (((0 : Dev Cert.ReferenceIdeal.nD).tc : Thread Cert.ReferenceIdeal.nD Cert.ReferenceIdeal.τ).loc Cert.ReferenceIdeal.main_arg0)
/-- The first weights of the reference; -/
def refWI (m' : (ℓ : Loc Cert.ReferenceIdeal.nD Cert.ReferenceIdeal.τ Cert.ReferenceIdeal.sig) → Buf (Elt Ideal) ℓ) (l : Fin 3) : R1024x8192.Idx → EReal :=
  match l with
  | 0 => m' (((0 : Dev Cert.ReferenceIdeal.nD).tc : Thread Cert.ReferenceIdeal.nD Cert.ReferenceIdeal.τ).loc Cert.ReferenceIdeal.main_arg1)
  | 1 => m' (((0 : Dev Cert.ReferenceIdeal.nD).tc : Thread Cert.ReferenceIdeal.nD Cert.ReferenceIdeal.τ).loc Cert.ReferenceIdeal.main_arg2)
  | 2 => m' (((0 : Dev Cert.ReferenceIdeal.nD).tc : Thread Cert.ReferenceIdeal.nD Cert.ReferenceIdeal.τ).loc Cert.ReferenceIdeal.main_arg3)
/-- the second weights of the reference. -/
def refWO (m' : (ℓ : Loc Cert.ReferenceIdeal.nD Cert.ReferenceIdeal.τ Cert.ReferenceIdeal.sig) → Buf (Elt Ideal) ℓ) (l : Fin 3) : R8192x1024.Idx → EReal :=
  match l with
  | 0 => m' (((0 : Dev Cert.ReferenceIdeal.nD).tc : Thread Cert.ReferenceIdeal.nD Cert.ReferenceIdeal.τ).loc Cert.ReferenceIdeal.main_arg4)
  | 1 => m' (((0 : Dev Cert.ReferenceIdeal.nD).tc : Thread Cert.ReferenceIdeal.nD Cert.ReferenceIdeal.τ).loc Cert.ReferenceIdeal.main_arg5)
  | 2 => m' (((0 : Dev Cert.ReferenceIdeal.nD).tc : Thread Cert.ReferenceIdeal.nD Cert.ReferenceIdeal.τ).loc Cert.ReferenceIdeal.main_arg6)

/-- The reference's result: three layers. -/
def refOut (X : R64x1024.Idx → EReal) (WI : Fin 3 → R1024x8192.Idx → EReal) (WO : Fin 3 → R8192x1024.Idx → EReal) : R64x1024.Idx → EReal :=
  mulR (hidR (mulR (hidR (mulR (hidR X (WI 0)) (WO 0)) (WI 1)) (WO 1)) (WI 2)) (WO 2)

/-- The reference's operations for a hidden layer are `hidR`, for a product `mulR`. -/
theorem ref_hid (X : FVec Ideal Cert.ReferenceIdeal.S64x1024 .f32) (W : FVec Ideal Cert.ReferenceIdeal.S1024x8192 .f32) :
    maximumf (Host.dotGeneral (Cert.ReferenceIdeal.dot_S64x1024_S1024x8192_S64x8192_1_0_0_1_n_n) none X W)
      (broadcastInDim Cert.ReferenceIdeal.S64x8192 ![] Cert.ReferenceIdeal.Facts₀.bcast_S_S64x8192 (constant Cert.ReferenceIdeal.S_ .f32 0x00000000#32))
    = hidR X W := by
  funext j
  obtain ⟨a, b, rfl⟩ : ∃ (a : Fin 64) (b : Fin 8192), j = ix2 a b := ⟨j 0, j 1, eq_ix2 j⟩
  exact congrArg₂ max (StackMember.dotGeneral_plain_apply none X W a b) Ideal.ofBits_zero_f32
/-- A product with a second weight is `mulR`. -/
theorem ref_mul (H : FVec Ideal Cert.ReferenceIdeal.S64x8192 .f32) (W : FVec Ideal Cert.ReferenceIdeal.S8192x1024 .f32) :
    Host.dotGeneral (Cert.ReferenceIdeal.dot_S64x8192_S8192x1024_S64x1024_1_0_0_1_n_n) none H W = mulR H W := by
  funext j
  obtain ⟨a, b, rfl⟩ : ∃ (a : Fin 64) (b : Fin 1024), j = ix2 a b := ⟨j 0, j 1, eq_ix2 j⟩
  exact StackMember.dotGeneral_plain_apply none H W a b

/-- A quarter of the columns, a quarter of the rows, and sixteen of the rows of a whole matrix, read at an index. -/
theorem cols_apply (c : Dev nD) (v : R1024x8192.Idx → EReal) (k : Fin 1024) (j : Fin 2048) :
    Layout.block ⟨2, ![1024, 2048]⟩ ⟨2, ![1024, 8192]⟩ 1 4 c v (by decide) (ix2 k j) = v (ix2 k (at4 (n := 2048) c j)) :=
  congrArg v (funext fun a => Fin.ext (by match a with | ⟨0, _⟩ => rfl | ⟨1, _⟩ => rfl))
/-- A quarter of the rows, read at an index. -/
theorem rows_apply (c : Dev nD) (v : R8192x1024.Idx → EReal) (k : Fin 2048) (j : Fin 1024) :
    Layout.block ⟨2, ![2048, 1024]⟩ ⟨2, ![8192, 1024]⟩ 0 4 c v (by decide) (ix2 k j) = v (ix2 (at4 (n := 2048) c k) j) :=
  congrArg v (funext fun a => Fin.ext (by match a with | ⟨0, _⟩ => rfl | ⟨1, _⟩ => rfl))
/-- Sixteen of the rows, read at an index. -/
theorem res_apply (c : Dev nD) (v : R64x1024.Idx → EReal) (i : Fin 16) (j : Fin 1024) :
    Layout.block ⟨2, ![16, 1024]⟩ ⟨2, ![64, 1024]⟩ 0 4 c v (by decide) (ix2 i j) = v (ix2 (at4 (n := 16) c i) j) :=
  congrArg v (funext fun a => Fin.ext (by match a with | ⟨0, _⟩ => rfl | ⟨1, _⟩ => rfl))

/-- The reference, on its own memory, ends with its three layers' result and its arguments unchanged; the kernel, from
    parts of the same arguments, with each device's sixteen rows of that result and its arguments unchanged. -/
theorem algebraic : Cert.algebraic_KernelIdeal_ReferenceIdeal (hKernelIdeal := Cert.KernelIdeal.Gen.facts)
    (hReferenceIdeal := Cert.ReferenceIdeal.Gen.facts) := by
  intro m ρ m' ρ' _ h
  have P : PartsOf (argsOf (F := Ideal) m) (refX m') (refWI m') (refWO m') :=
    { x := fun c i k => (congrFun (read_x c _) _).trans (congrFun (h c).1 _)
      wi := fun l c k j => match l with
        | 0 => (congrFun (read_wi0 c _) _).trans ((congrFun (h c).2.1 _).trans (cols_apply c _ k j))
        | 1 => (congrFun (read_wi1 c _) _).trans ((congrFun (h c).2.2.1 _).trans (cols_apply c _ k j))
        | 2 => (congrFun (read_wi2 c _) _).trans ((congrFun (h c).2.2.2.1 _).trans (cols_apply c _ k j))
      wo := fun l c k j => match l with
        | 0 => (congrFun (read_wo0 c _) _).trans ((congrFun (h c).2.2.2.2.1 _).trans (rows_apply c _ k j))
        | 1 => (congrFun (read_wo1 c _) _).trans ((congrFun (h c).2.2.2.2.2.1 _).trans (rows_apply c _ k j))
        | 2 => (congrFun (read_wo2 c _) _).trans ((congrFun (h c).2.2.2.2.2.2 _).trans (rows_apply c _ k j)) }
  refine ⟨refOut (refX m') (refWI m') (refWO m'), ?_, ?_⟩
  · refine (θ_run defs _ _).mono (fun r hr c => ⟨?_, kept m ρ r hr.1 c⟩) (run_main (F := Ideal) m ρ)
    refine ((hr.1 c (7 : Fin 8)).trans (final_res m ρ c)).trans (funext fun y => ?_)
    rw [eq_ix2 y]
    exact (out_rows P c (y 0) (y 1)).trans (res_apply c _ (y 0) (y 1)).symm
  · refine (θ_run Cert.ReferenceIdeal.defs _ _).mono (fun r hr => ⟨(hr 0).1.trans ?_, (hr 0).2⟩) (Cert.ReferenceIdeal.Value.run (F := Ideal) m' ρ')
    rw [ref_hid, ref_mul, ref_hid, ref_mul, ref_hid, ref_mul]; rfl

end Claim

end Cert.MeshProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import Idealize.ShloMosaic.Adequacy
public import Idealize.ShloMosaic.Init

@[expose] public section

noncomputable section

namespace Cert.Proof

open Idealize.ShloMosaic Idealize.SL.Sem Cert.Kernel

/-- All five claims: the kernel as compiled, the kernel at the ideal values and the reference each end with their
    arguments unchanged and their counters at zero; no operation of the kernel was replaced; and the kernel's result is,
    device by device, the rows of the reference's. -/
theorem claim : Cert.Claim := ⟨Cert.Kernel.Gen.facts, Cert.KernelIdeal.Gen.facts, Cert.ReferenceIdeal.Gen.facts,
  Cert.MeshProof.frame_kernel, Cert.MeshProof.frame_kernelIdeal, Cert.MeshProof.frame_reference, trivial, Cert.MeshProof.algebraic⟩

end Cert.Proof

end
